-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![512, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S3x512x512 : Shape := ⟨3, ![3, 512, 512]⟩
abbrev S3x8 : Shape := ⟨2, ![3, 8]⟩
abbrev S_ : Shape := ⟨0, ![]⟩
abbrev S1x64x512 : Shape := ⟨3, ![1, 64, 512]⟩
abbrev S1x1 : Shape := ⟨2, ![1, 1]⟩
abbrev S64x1024 : Shape := ⟨2, ![64, 1024]⟩
abbrev S1x512x512 : Shape := ⟨3, ![1, 512, 512]⟩
abbrev S512x512 : Shape := ⟨2, ![512, 512]⟩
abbrev S8x64x512 : Shape := ⟨3, ![8, 64, 512]⟩

abbrev nBuf : Space → Nat
  | .hbm => 8
  | .vmem => 13
  | .smem => 0
  | _ => 0

abbrev bufTy : (tb : Table) → Fin (tcTables nBuf tb) → BufTy
  | .hbm, ⟨0, _⟩ => ⟨S64x512, .bf16⟩
  | .hbm, ⟨1, _⟩ => ⟨S512x1024, .bf16⟩
  | .hbm, ⟨2, _⟩ => ⟨S512x1024, .bf16⟩
  | .hbm, ⟨3, _⟩ => ⟨S512x1024, .bf16⟩
  | .hbm, ⟨4, _⟩ => ⟨S1024x512, .bf16⟩
  | .hbm, ⟨5, _⟩ => ⟨S1024x512, .bf16⟩
  | .hbm, ⟨6, _⟩ => ⟨S1024x512, .bf16⟩
  | .hbm, ⟨7, _⟩ => ⟨S64x512, .f32⟩
  | .local _ .vmem, ⟨0, _⟩ => ⟨S64x512, .bf16⟩
  | .local _ .vmem, ⟨1, _⟩ => ⟨S512x1024, .bf16⟩
  | .local _ .vmem, ⟨2, _⟩ => ⟨S1024x512, .bf16⟩
  | .local _ .vmem, ⟨3, _⟩ => ⟨S512x1024, .bf16⟩
  | .local _ .vmem, ⟨4, _⟩ => ⟨S1024x512, .bf16⟩
  | .local _ .vmem, ⟨5, _⟩ => ⟨S512x1024, .bf16⟩
  | .local _ .vmem, ⟨6, _⟩ => ⟨S1024x512, .bf16⟩
  | .local _ .vmem, ⟨7, _⟩ => ⟨S64x512, .f32⟩
  | .local _ .vmem, ⟨8, _⟩ => ⟨S3x512x512, .bf16⟩
  | .local _ .vmem, ⟨9, _⟩ => ⟨S3x512x512, .bf16⟩
  | .local _ .vmem, ⟨10, _⟩ => ⟨S3x512x512, .bf16⟩
  | .local _ .vmem, ⟨11, _⟩ => ⟨S512x1024, .bf16⟩
  | .local _ .vmem, ⟨12, _⟩ => ⟨S1024x512, .bf16⟩
  | _, _ => ⟨S64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  (ofTc nBuf bufTy 1 104 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 3 → Nat :=
  let c0_65 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v97 : BitVec 32 := Scalar.muli v2 c64_i32
  let v98 : Index := Scalar.indexCast v97
  let c0_66 : Index := 0#32
  ![0, v98.toNat, 0]
def k0_off2 (d0 : Dev nD) (c1_i32_67 : BitVec 32) : Fin 2 → Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v102 : BitVec 32 := Scalar.addi v2 c1_i32_67
  let c8_i32_68 : BitVec 32 := 8#32
  let c0_i32_69 : BitVec 32 := 0#32
  let v103 : BitVec 1 := Scalar.cmpi .eq c8_i32_68 c0_i32_69
  let c1_i32_70 : BitVec 32 := 1#32
  let v104 : BitVec 32 := Scalar.select v103 c1_i32_70 c8_i32_68
  let v105 : BitVec 32 := Scalar.remsi v102 v104
  let c0_i32_72 : BitVec 32 := 0#32
  let v107 : BitVec 1 := Scalar.cmpi .slt v105 c0_i32_72
  let c0_i32_73 : BitVec 32 := 0#32
  let v108 : BitVec 1 := Scalar.cmpi .slt v104 c0_i32_73
  let v109 : BitVec 1 := Scalar.xori v107 v108
  let c0_i32_71 : BitVec 32 := 0#32
  let v106 : BitVec 1 := Scalar.cmpi .ne v105 c0_i32_71
  let v110 : BitVec 1 := Scalar.andi v109 v106
  let v111 : BitVec 32 := Scalar.addi v105 v104
  let v112 : BitVec 32 := Scalar.select v110 v111 v105
  ![0, v112.toNat]
def k0_off3 (d0 : Dev nD) : Fin 2 → Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off4 (d0 : Dev nD) : Fin 3 → Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_75 : BitVec 32 := 64#32
  let v114 : BitVec 32 := Scalar.muli v2 c64_i32_75
  let c0_i32_82 : BitVec 32 := 0#32
  ![0, v114.toNat, 0]
def k0_dev8 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v102 : BitVec 32 := Scalar.addi v2 c1_i32_67
  let c8_i32_68 : BitVec 32 := 8#32
  let c0_i32_69 : BitVec 32 := 0#32
  let v103 : BitVec 1 := Scalar.cmpi .eq c8_i32_68 c0_i32_69
  let c1_i32_70 : BitVec 32 := 1#32
  let v104 : BitVec 32 := Scalar.select v103 c1_i32_70 c8_i32_68
  let v105 : BitVec 32 := Scalar.remsi v102 v104
  let c0_i32_72 : BitVec 32 := 0#32
  let v107 : BitVec 1 := Scalar.cmpi .slt v105 c0_i32_72
  let c0_i32_73 : BitVec 32 := 0#32
  let v108 : BitVec 1 := Scalar.cmpi .slt v104 c0_i32_73
  let v109 : BitVec 1 := Scalar.xori v107 v108
  let c0_i32_71 : BitVec 32 := 0#32
  let v106 : BitVec 1 := Scalar.cmpi .ne v105 c0_i32_71
  let v110 : BitVec 1 := Scalar.andi v109 v106
  let v111 : BitVec 32 := Scalar.addi v105 v104
  let v112 : BitVec 32 := Scalar.select v110 v111 v105
  let c1_i32_80 : BitVec 32 := 1#32
  let v115 : BitVec 32 := Scalar.muli v112 c1_i32_80
  let v116 : BitVec 32 := Scalar.addi c0_i32_81 v115
  v116.toNat
def k0_dev9 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v125 : BitVec 32 := Scalar.addi v2 c2_i32_84
  let c8_i32_85 : BitVec 32 := 8#32
  let c0_i32_86 : BitVec 32 := 0#32
  let v126 : BitVec 1 := Scalar.cmpi .eq c8_i32_85 c0_i32_86
  let c1_i32_87 : BitVec 32 := 1#32
  let v127 : BitVec 32 := Scalar.select v126 c1_i32_87 c8_i32_85
  let v128 : BitVec 32 := Scalar.remsi v125 v127
  let c0_i32_89 : BitVec 32 := 0#32
  let v130 : BitVec 1 := Scalar.cmpi .slt v128 c0_i32_89
  let c0_i32_90 : BitVec 32 := 0#32
  let v131 : BitVec 1 := Scalar.cmpi .slt v127 c0_i32_90
  let v132 : BitVec 1 := Scalar.xori v130 v131
  let c0_i32_88 : BitVec 32 := 0#32
  let v129 : BitVec 1 := Scalar.cmpi .ne v128 c0_i32_88
  let v133 : BitVec 1 := Scalar.andi v132 v129
  let v134 : BitVec 32 := Scalar.addi v128 v127
  let v135 : BitVec 32 := Scalar.select v133 v134 v128
  let c1_i32_97 : BitVec 32 := 1#32
  let v138 : BitVec 32 := Scalar.muli v135 c1_i32_97
  let v139 : BitVec 32 := Scalar.addi c0_i32_98 v138
  v139.toNat
def k0_dev10 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_101 : BitVec 32 := 3#32
  let v148 : BitVec 32 := Scalar.addi v2 c3_i32_101
  let c8_i32_102 : BitVec 32 := 8#32
  let c0_i32_103 : BitVec 32 := 0#32
  let v149 : BitVec 1 := Scalar.cmpi .eq c8_i32_102 c0_i32_103
  let c1_i32_104 : BitVec 32 := 1#32
  let v150 : BitVec 32 := Scalar.select v149 c1_i32_104 c8_i32_102
  let v151 : BitVec 32 := Scalar.remsi v148 v150
  let c0_i32_106 : BitVec 32 := 0#32
  let v153 : BitVec 1 := Scalar.cmpi .slt v151 c0_i32_106
  let c0_i32_107 : BitVec 32 := 0#32
  let v154 : BitVec 1 := Scalar.cmpi .slt v150 c0_i32_107
  let v155 : BitVec 1 := Scalar.xori v153 v154
  let c0_i32_105 : BitVec 32 := 0#32
  let v152 : BitVec 1 := Scalar.cmpi .ne v151 c0_i32_105
  let v156 : BitVec 1 := Scalar.andi v155 v152
  let v157 : BitVec 32 := Scalar.addi v151 v150
  let v158 : BitVec 32 := Scalar.select v156 v157 v151
  let c1_i32_114 : BitVec 32 := 1#32
  let v161 : BitVec 32 := Scalar.muli v158 c1_i32_114
  let v162 : BitVec 32 := Scalar.addi c0_i32_115 v161
  v162.toNat
def k0_dev11 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_118 : BitVec 32 := 4#32
  let v171 : BitVec 32 := Scalar.addi v2 c4_i32_118
  let c8_i32_119 : BitVec 32 := 8#32
  let c0_i32_120 : BitVec 32 := 0#32
  let v172 : BitVec 1 := Scalar.cmpi .eq c8_i32_119 c0_i32_120
  let c1_i32_121 : BitVec 32 := 1#32
  let v173 : BitVec 32 := Scalar.select v172 c1_i32_121 c8_i32_119
  let v174 : BitVec 32 := Scalar.remsi v171 v173
  let c0_i32_123 : BitVec 32 := 0#32
  let v176 : BitVec 1 := Scalar.cmpi .slt v174 c0_i32_123
  let c0_i32_124 : BitVec 32 := 0#32
  let v177 : BitVec 1 := Scalar.cmpi .slt v173 c0_i32_124
  let v178 : BitVec 1 := Scalar.xori v176 v177
  let c0_i32_122 : BitVec 32 := 0#32
  let v175 : BitVec 1 := Scalar.cmpi .ne v174 c0_i32_122
  let v179 : BitVec 1 := Scalar.andi v178 v175
  let v180 : BitVec 32 := Scalar.addi v174 v173
  let v181 : BitVec 32 := Scalar.select v179 v180 v174
  let c1_i32_131 : BitVec 32 := 1#32
  let v184 : BitVec 32 := Scalar.muli v181 c1_i32_131
  let v185 : BitVec 32 := Scalar.addi c0_i32_132 v184
  v185.toNat
def k0_dev12 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_135 : BitVec 32 := 5#32
  let v194 : BitVec 32 := Scalar.addi v2 c5_i32_135
  let c8_i32_136 : BitVec 32 := 8#32
  let c0_i32_137 : BitVec 32 := 0#32
  let v195 : BitVec 1 := Scalar.cmpi .eq c8_i32_136 c0_i32_137
  let c1_i32_138 : BitVec 32 := 1#32
  let v196 : BitVec 32 := Scalar.select v195 c1_i32_138 c8_i32_136
  let v197 : BitVec 32 := Scalar.remsi v194 v196
  let c0_i32_140 : BitVec 32 := 0#32
  let v199 : BitVec 1 := Scalar.cmpi .slt v197 c0_i32_140
  let c0_i32_141 : BitVec 32 := 0#32
  let v200 : BitVec 1 := Scalar.cmpi .slt v196 c0_i32_141
  let v201 : BitVec 1 := Scalar.xori v199 v200
  let c0_i32_139 : BitVec 32 := 0#32
  let v198 : BitVec 1 := Scalar.cmpi .ne v197 c0_i32_139
  let v202 : BitVec 1 := Scalar.andi v201 v198
  let v203 : BitVec 32 := Scalar.addi v197 v196
  let v204 : BitVec 32 := Scalar.select v202 v203 v197
  let c1_i32_148 : BitVec 32 := 1#32
  let v207 : BitVec 32 := Scalar.muli v204 c1_i32_148
  let v208 : BitVec 32 := Scalar.addi c0_i32_149 v207
  v208.toNat
def k0_dev13 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_152 : BitVec 32 := 6#32
  let v217 : BitVec 32 := Scalar.addi v2 c6_i32_152
  let c8_i32_153 : BitVec 32 := 8#32
  let c0_i32_154 : BitVec 32 := 0#32
  let v218 : BitVec 1 := Scalar.cmpi .eq c8_i32_153 c0_i32_154
  let c1_i32_155 : BitVec 32 := 1#32
  let v219 : BitVec 32 := Scalar.select v218 c1_i32_155 c8_i32_153
  let v220 : BitVec 32 := Scalar.remsi v217 v219
  let c0_i32_157 : BitVec 32 := 0#32
  let v222 : BitVec 1 := Scalar.cmpi .slt v220 c0_i32_157
  let c0_i32_158 : BitVec 32 := 0#32
  let v223 : BitVec 1 := Scalar.cmpi .slt v219 c0_i32_158
  let v224 : BitVec 1 := Scalar.xori v222 v223
  let c0_i32_156 : BitVec 32 := 0#32
  let v221 : BitVec 1 := Scalar.cmpi .ne v220 c0_i32_156
  let v225 : BitVec 1 := Scalar.andi v224 v221
  let v226 : BitVec 32 := Scalar.addi v220 v219
  let v227 : BitVec 32 := Scalar.select v225 v226 v220
  let c1_i32_165 : BitVec 32 := 1#32
  let v230 : BitVec 32 := Scalar.muli v227 c1_i32_165
  let v231 : BitVec 32 := Scalar.addi c0_i32_166 v230
  v231.toNat
def k0_dev14 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_169 : BitVec 32 := 7#32
  let v240 : BitVec 32 := Scalar.addi v2 c7_i32_169
  let c8_i32_170 : BitVec 32 := 8#32
  let c0_i32_171 : BitVec 32 := 0#32
  let v241 : BitVec 1 := Scalar.cmpi .eq c8_i32_170 c0_i32_171
  let c1_i32_172 : BitVec 32 := 1#32
  let v242 : BitVec 32 := Scalar.select v241 c1_i32_172 c8_i32_170
  let v243 : BitVec 32 := Scalar.remsi v240 v242
  let c0_i32_174 : BitVec 32 := 0#32
  let v245 : BitVec 1 := Scalar.cmpi .slt v243 c0_i32_174
  let c0_i32_175 : BitVec 32 := 0#32
  let v246 : BitVec 1 := Scalar.cmpi .slt v242 c0_i32_175
  let v247 : BitVec 1 := Scalar.xori v245 v246
  let c0_i32_173 : BitVec 32 := 0#32
  let v244 : BitVec 1 := Scalar.cmpi .ne v243 c0_i32_173
  let v248 : BitVec 1 := Scalar.andi v247 v244
  let v249 : BitVec 32 := Scalar.addi v243 v242
  let v250 : BitVec 32 := Scalar.select v248 v249 v243
  let c1_i32_182 : BitVec 32 := 1#32
  let v253 : BitVec 32 := Scalar.muli v250 c1_i32_182
  let v254 : BitVec 32 := Scalar.addi c0_i32_183 v253
  v254.toNat
def k0_off5 (d0 : Dev nD) (c1_i32_206 : BitVec 32) : Fin 3 → Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v290 : BitVec 32 := Scalar.addi v2 c1_i32_206
  let c8_i32_207 : BitVec 32 := 8#32
  let c0_i32_208 : BitVec 32 := 0#32
  let v291 : BitVec 1 := Scalar.cmpi .eq c8_i32_207 c0_i32_208
  let c1_i32_209 : BitVec 32 := 1#32
  let v292 : BitVec 32 := Scalar.select v291 c1_i32_209 c8_i32_207
  let v293 : BitVec 32 := Scalar.remsi v290 v292
  let c0_i32_211 : BitVec 32 := 0#32
  let v295 : BitVec 1 := Scalar.cmpi .slt v293 c0_i32_211
  let c0_i32_212 : BitVec 32 := 0#32
  let v296 : BitVec 1 := Scalar.cmpi .slt v292 c0_i32_212
  let v297 : BitVec 1 := Scalar.xori v295 v296
  let c0_i32_210 : BitVec 32 := 0#32
  let v294 : BitVec 1 := Scalar.cmpi .ne v293 c0_i32_210
  let v298 : BitVec 1 := Scalar.andi v297 v294
  let v299 : BitVec 32 := Scalar.addi v293 v292
  let v300 : BitVec 32 := Scalar.select v298 v299 v293
  let c64_i32_214 : BitVec 32 := 64#32
  let v302 : BitVec 32 := Scalar.muli v300 c64_i32_214
  let c0_i32_221 : BitVec 32 := 0#32
  ![0, v302.toNat, 0]
def k0_off6 (d0 : Dev nD) (c1_i32_206 : BitVec 32) : Fin 3 → Nat :=
  let c0_224 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v290 : BitVec 32 := Scalar.addi v2 c1_i32_206
  let c8_i32_207 : BitVec 32 := 8#32
  let c0_i32_208 : BitVec 32 := 0#32
  let v291 : BitVec 1 := Scalar.cmpi .eq c8_i32_207 c0_i32_208
  let c1_i32_209 : BitVec 32 := 1#32
  let v292 : BitVec 32 := Scalar.select v291 c1_i32_209 c8_i32_207
  let v293 : BitVec 32 := Scalar.remsi v290 v292
  let c0_i32_211 : BitVec 32 := 0#32
  let v295 : BitVec 1 := Scalar.cmpi .slt v293 c0_i32_211
  let c0_i32_212 : BitVec 32 := 0#32
  let v296 : BitVec 1 := Scalar.cmpi .slt v292 c0_i32_212
  let v297 : BitVec 1 := Scalar.xori v295 v296
  let c0_i32_210 : BitVec 32 := 0#32
  let v294 : BitVec 1 := Scalar.cmpi .ne v293 c0_i32_210
  let v298 : BitVec 1 := Scalar.andi v297 v294
  let v299 : BitVec 32 := Scalar.addi v293 v292
  let v300 : BitVec 32 := Scalar.select v298 v299 v293
  let c64_i32_223 : BitVec 32 := 64#32
  let v311 : BitVec 32 := Scalar.muli v300 c64_i32_223
  let v312 : Index := Scalar.indexCast v311
  let c0_225 : Index := 0#32
  ![0, v312.toNat, 0]
def k0_dev15 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_206 : BitVec 32 := 1#32
  let v290 : BitVec 32 := Scalar.addi v2 c1_i32_206
  let c8_i32_207 : BitVec 32 := 8#32
  let c0_i32_208 : BitVec 32 := 0#32
  let v291 : BitVec 1 := Scalar.cmpi .eq c8_i32_207 c0_i32_208
  let c1_i32_209 : BitVec 32 := 1#32
  let v292 : BitVec 32 := Scalar.select v291 c1_i32_209 c8_i32_207
  let v293 : BitVec 32 := Scalar.remsi v290 v292
  let c0_i32_211 : BitVec 32 := 0#32
  let v295 : BitVec 1 := Scalar.cmpi .slt v293 c0_i32_211
  let c0_i32_212 : BitVec 32 := 0#32
  let v296 : BitVec 1 := Scalar.cmpi .slt v292 c0_i32_212
  let v297 : BitVec 1 := Scalar.xori v295 v296
  let c0_i32_210 : BitVec 32 := 0#32
  let v294 : BitVec 1 := Scalar.cmpi .ne v293 c0_i32_210
  let v298 : BitVec 1 := Scalar.andi v297 v294
  let v299 : BitVec 32 := Scalar.addi v293 v292
  let v300 : BitVec 32 := Scalar.select v298 v299 v293
  let c1_i32_242 : BitVec 32 := 1#32
  let v330 : BitVec 32 := Scalar.muli v300 c1_i32_242
  let v331 : BitVec 32 := Scalar.addi c0_i32_243 v330
  v331.toNat
def k0_dev16 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_246 : BitVec 32 := 2#32
  let v340 : BitVec 32 := Scalar.addi v2 c2_i32_246
  let c8_i32_247 : BitVec 32 := 8#32
  let c0_i32_248 : BitVec 32 := 0#32
  let v341 : BitVec 1 := Scalar.cmpi .eq c8_i32_247 c0_i32_248
  let c1_i32_249 : BitVec 32 := 1#32
  let v342 : BitVec 32 := Scalar.select v341 c1_i32_249 c8_i32_247
  let v343 : BitVec 32 := Scalar.remsi v340 v342
  let c0_i32_251 : BitVec 32 := 0#32
  let v345 : BitVec 1 := Scalar.cmpi .slt v343 c0_i32_251
  let c0_i32_252 : BitVec 32 := 0#32
  let v346 : BitVec 1 := Scalar.cmpi .slt v342 c0_i32_252
  let v347 : BitVec 1 := Scalar.xori v345 v346
  let c0_i32_250 : BitVec 32 := 0#32
  let v344 : BitVec 1 := Scalar.cmpi .ne v343 c0_i32_250
  let v348 : BitVec 1 := Scalar.andi v347 v344
  let v349 : BitVec 32 := Scalar.addi v343 v342
  let v350 : BitVec 32 := Scalar.select v348 v349 v343
  let c1_i32_282 : BitVec 32 := 1#32
  let v380 : BitVec 32 := Scalar.muli v350 c1_i32_282
  let v381 : BitVec 32 := Scalar.addi c0_i32_283 v380
  v381.toNat
def k0_dev17 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_286 : BitVec 32 := 3#32
  let v390 : BitVec 32 := Scalar.addi v2 c3_i32_286
  let c8_i32_287 : BitVec 32 := 8#32
  let c0_i32_288 : BitVec 32 := 0#32
  let v391 : BitVec 1 := Scalar.cmpi .eq c8_i32_287 c0_i32_288
  let c1_i32_289 : BitVec 32 := 1#32
  let v392 : BitVec 32 := Scalar.select v391 c1_i32_289 c8_i32_287
  let v393 : BitVec 32 := Scalar.remsi v390 v392
  let c0_i32_291 : BitVec 32 := 0#32
  let v395 : BitVec 1 := Scalar.cmpi .slt v393 c0_i32_291
  let c0_i32_292 : BitVec 32 := 0#32
  let v396 : BitVec 1 := Scalar.cmpi .slt v392 c0_i32_292
  let v397 : BitVec 1 := Scalar.xori v395 v396
  let c0_i32_290 : BitVec 32 := 0#32
  let v394 : BitVec 1 := Scalar.cmpi .ne v393 c0_i32_290
  let v398 : BitVec 1 := Scalar.andi v397 v394
  let v399 : BitVec 32 := Scalar.addi v393 v392
  let v400 : BitVec 32 := Scalar.select v398 v399 v393
  let c1_i32_322 : BitVec 32 := 1#32
  let v430 : BitVec 32 := Scalar.muli v400 c1_i32_322
  let v431 : BitVec 32 := Scalar.addi c0_i32_323 v430
  v431.toNat
def k0_dev18 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_326 : BitVec 32 := 4#32
  let v440 : BitVec 32 := Scalar.addi v2 c4_i32_326
  let c8_i32_327 : BitVec 32 := 8#32
  let c0_i32_328 : BitVec 32 := 0#32
  let v441 : BitVec 1 := Scalar.cmpi .eq c8_i32_327 c0_i32_328
  let c1_i32_329 : BitVec 32 := 1#32
  let v442 : BitVec 32 := Scalar.select v441 c1_i32_329 c8_i32_327
  let v443 : BitVec 32 := Scalar.remsi v440 v442
  let c0_i32_331 : BitVec 32 := 0#32
  let v445 : BitVec 1 := Scalar.cmpi .slt v443 c0_i32_331
  let c0_i32_332 : BitVec 32 := 0#32
  let v446 : BitVec 1 := Scalar.cmpi .slt v442 c0_i32_332
  let v447 : BitVec 1 := Scalar.xori v445 v446
  let c0_i32_330 : BitVec 32 := 0#32
  let v444 : BitVec 1 := Scalar.cmpi .ne v443 c0_i32_330
  let v448 : BitVec 1 := Scalar.andi v447 v444
  let v449 : BitVec 32 := Scalar.addi v443 v442
  let v450 : BitVec 32 := Scalar.select v448 v449 v443
  let c1_i32_362 : BitVec 32 := 1#32
  let v480 : BitVec 32 := Scalar.muli v450 c1_i32_362
  let v481 : BitVec 32 := Scalar.addi c0_i32_363 v480
  v481.toNat
def k0_dev19 (d0 : Dev nD) : Nat :=
  let c0_i32_403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_366 : BitVec 32 := 5#32
  let v490 : BitVec 32 := Scalar.addi v2 c5_i32_366
  let c8_i32_367 : BitVec 32 := 8#32
  let c0_i32_368 : BitVec 32 := 0#32
  let v491 : BitVec 1 := Scalar.cmpi .eq c8_i32_367 c0_i32_368
  let c1_i32_369 : BitVec 32 := 1#32
  let v492 : BitVec 32 := Scalar.select v491 c1_i32_369 c8_i32_367
  let v493 : BitVec 32 := Scalar.remsi v490 v492
  let c0_i32_371 : BitVec 32 := 0#32
  let v495 : BitVec 1 := Scalar.cmpi .slt v493 c0_i32_371
  let c0_i32_372 : BitVec 32 := 0#32
  let v496 : BitVec 1 := Scalar.cmpi .slt v492 c0_i32_372
  let v497 : BitVec 1 := Scalar.xori v495 v496
  let c0_i32_370 : BitVec 32 := 0#32
  let v494 : BitVec 1 := Scalar.cmpi .ne v493 c0_i32_370
  let v498 : BitVec 1 := Scalar.andi v497 v494
  let v499 : BitVec 32 := Scalar.addi v493 v492
  let v500 : BitVec 32 := Scalar.select v498 v499 v493
  let c1_i32_402 : BitVec 32 := 1#32
  let v530 : BitVec 32 := Scalar.muli v500 c1_i32_402
  let v531 : BitVec 32 := Scalar.addi c0_i32_403 v530
  v531.toNat
def k0_dev20 (d0 : Dev nD) : Nat :=
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_406 : BitVec 32 := 6#32
  let v540 : BitVec 32 := Scalar.addi v2 c6_i32_406
  let c8_i32_407 : BitVec 32 := 8#32
  let c0_i32_408 : BitVec 32 := 0#32
  let v541 : BitVec 1 := Scalar.cmpi .eq c8_i32_407 c0_i32_408
  let c1_i32_409 : BitVec 32 := 1#32
  let v542 : BitVec 32 := Scalar.select v541 c1_i32_409 c8_i32_407
  let v543 : BitVec 32 := Scalar.remsi v540 v542
  let c0_i32_411 : BitVec 32 := 0#32
  let v545 : BitVec 1 := Scalar.cmpi .slt v543 c0_i32_411
  let c0_i32_412 : BitVec 32 := 0#32
  let v546 : BitVec 1 := Scalar.cmpi .slt v542 c0_i32_412
  let v547 : BitVec 1 := Scalar.xori v545 v546
  let c0_i32_410 : BitVec 32 := 0#32
  let v544 : BitVec 1 := Scalar.cmpi .ne v543 c0_i32_410
  let v548 : BitVec 1 := Scalar.andi v547 v544
  let v549 : BitVec 32 := Scalar.addi v543 v542
  let v550 : BitVec 32 := Scalar.select v548 v549 v543
  let c1_i32_442 : BitVec 32 := 1#32
  let v580 : BitVec 32 := Scalar.muli v550 c1_i32_442
  let v581 : BitVec 32 := Scalar.addi c0_i32_443 v580
  v581.toNat
def k0_dev21 (d0 : Dev nD) : Nat :=
  let c0_i32_483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_446 : BitVec 32 := 7#32
  let v590 : BitVec 32 := Scalar.addi v2 c7_i32_446
  let c8_i32_447 : BitVec 32 := 8#32
  let c0_i32_448 : BitVec 32 := 0#32
  let v591 : BitVec 1 := Scalar.cmpi .eq c8_i32_447 c0_i32_448
  let c1_i32_449 : BitVec 32 := 1#32
  let v592 : BitVec 32 := Scalar.select v591 c1_i32_449 c8_i32_447
  let v593 : BitVec 32 := Scalar.remsi v590 v592
  let c0_i32_451 : BitVec 32 := 0#32
  let v595 : BitVec 1 := Scalar.cmpi .slt v593 c0_i32_451
  let c0_i32_452 : BitVec 32 := 0#32
  let v596 : BitVec 1 := Scalar.cmpi .slt v592 c0_i32_452
  let v597 : BitVec 1 := Scalar.xori v595 v596
  let c0_i32_450 : BitVec 32 := 0#32
  let v594 : BitVec 1 := Scalar.cmpi .ne v593 c0_i32_450
  let v598 : BitVec 1 := Scalar.andi v597 v594
  let v599 : BitVec 32 := Scalar.addi v593 v592
  let v600 : BitVec 32 := Scalar.select v598 v599 v593
  let c1_i32_482 : BitVec 32 := 1#32
  let v630 : BitVec 32 := Scalar.muli v600 c1_i32_482
  let v631 : BitVec 32 := Scalar.addi c0_i32_483 v630
  v631.toNat
def k0_off7 (d0 : Dev nD) (c1_i32_487 : BitVec 32) : Fin 2 → Nat :=
  let c0_i32_498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_486 : BitVec 32 := 8#32
  let v640 : BitVec 32 := Scalar.addi v2 c8_i32_486
  let v641 : BitVec 32 := Scalar.subi v640 c1_i32_487
  let c8_i32_488 : BitVec 32 := 8#32
  let c0_i32_489 : BitVec 32 := 0#32
  let v642 : BitVec 1 := Scalar.cmpi .eq c8_i32_488 c0_i32_489
  let c1_i32_490 : BitVec 32 := 1#32
  let v643 : BitVec 32 := Scalar.select v642 c1_i32_490 c8_i32_488
  let v644 : BitVec 32 := Scalar.remsi v641 v643
  let c0_i32_492 : BitVec 32 := 0#32
  let v646 : BitVec 1 := Scalar.cmpi .slt v644 c0_i32_492
  let c0_i32_493 : BitVec 32 := 0#32
  let v647 : BitVec 1 := Scalar.cmpi .slt v643 c0_i32_493
  let v648 : BitVec 1 := Scalar.xori v646 v647
  let c0_i32_491 : BitVec 32 := 0#32
  let v645 : BitVec 1 := Scalar.cmpi .ne v644 c0_i32_491
  let v649 : BitVec 1 := Scalar.andi v648 v645
  let v650 : BitVec 32 := Scalar.addi v644 v643
  let v651 : BitVec 32 := Scalar.select v649 v650 v644
  ![0, v651.toNat]
def k0_off8 (d0 : Dev nD) (c1_i32_487 : BitVec 32) : Fin 3 → Nat :=
  let c0_i32_497 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_486 : BitVec 32 := 8#32
  let v640 : BitVec 32 := Scalar.addi v2 c8_i32_486
  let v641 : BitVec 32 := Scalar.subi v640 c1_i32_487
  let c8_i32_488 : BitVec 32 := 8#32
  let c0_i32_489 : BitVec 32 := 0#32
  let v642 : BitVec 1 := Scalar.cmpi .eq c8_i32_488 c0_i32_489
  let c1_i32_490 : BitVec 32 := 1#32
  let v643 : BitVec 32 := Scalar.select v642 c1_i32_490 c8_i32_488
  let v644 : BitVec 32 := Scalar.remsi v641 v643
  let c0_i32_492 : BitVec 32 := 0#32
  let v646 : BitVec 1 := Scalar.cmpi .slt v644 c0_i32_492
  let c0_i32_493 : BitVec 32 := 0#32
  let v647 : BitVec 1 := Scalar.cmpi .slt v643 c0_i32_493
  let v648 : BitVec 1 := Scalar.xori v646 v647
  let c0_i32_491 : BitVec 32 := 0#32
  let v645 : BitVec 1 := Scalar.cmpi .ne v644 c0_i32_491
  let v649 : BitVec 1 := Scalar.andi v648 v645
  let v650 : BitVec 32 := Scalar.addi v644 v643
  let v651 : BitVec 32 := Scalar.select v649 v650 v644
  let c64_i32_495 : BitVec 32 := 64#32
  let v653 : BitVec 32 := Scalar.muli v651 c64_i32_495
  let c0_i32_502 : BitVec 32 := 0#32
  ![0, v653.toNat, 0]
def k0_off9 (d0 : Dev nD) : Fin 3 → Nat :=
  let c1 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_616 : BitVec 32 := 64#32
  let v800 : BitVec 32 := Scalar.muli v2 c64_i32_616
  let v801 : Index := Scalar.indexCast v800
  let c0_617 : Index := 0#32
  ![1, v801.toNat, 0]
def k0_off10 (d0 : Dev nD) (c1_i32_618 : BitVec 32) : Fin 2 → Nat :=
  let c1_i32_630 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v805 : BitVec 32 := Scalar.addi v2 c1_i32_618
  let c8_i32_619 : BitVec 32 := 8#32
  let c0_i32_620 : BitVec 32 := 0#32
  let v806 : BitVec 1 := Scalar.cmpi .eq c8_i32_619 c0_i32_620
  let c1_i32_621 : BitVec 32 := 1#32
  let v807 : BitVec 32 := Scalar.select v806 c1_i32_621 c8_i32_619
  let v808 : BitVec 32 := Scalar.remsi v805 v807
  let c0_i32_623 : BitVec 32 := 0#32
  let v810 : BitVec 1 := Scalar.cmpi .slt v808 c0_i32_623
  let c0_i32_624 : BitVec 32 := 0#32
  let v811 : BitVec 1 := Scalar.cmpi .slt v807 c0_i32_624
  let v812 : BitVec 1 := Scalar.xori v810 v811
  let c0_i32_622 : BitVec 32 := 0#32
  let v809 : BitVec 1 := Scalar.cmpi .ne v808 c0_i32_622
  let v813 : BitVec 1 := Scalar.andi v812 v809
  let v814 : BitVec 32 := Scalar.addi v808 v807
  let v815 : BitVec 32 := Scalar.select v813 v814 v808
  ![1, v815.toNat]
def k0_off11 (d0 : Dev nD) : Fin 2 → Nat :=
  let c1_i32_629 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off12 (d0 : Dev nD) : Fin 3 → Nat :=
  let c1_i32_628 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_626 : BitVec 32 := 64#32
  let v817 : BitVec 32 := Scalar.muli v2 c64_i32_626
  let c0_i32_633 : BitVec 32 := 0#32
  ![1, v817.toNat, 0]
def k0_dev22 (d0 : Dev nD) : Nat :=
  let c0_i32_632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_618 : BitVec 32 := 1#32
  let v805 : BitVec 32 := Scalar.addi v2 c1_i32_618
  let c8_i32_619 : BitVec 32 := 8#32
  let c0_i32_620 : BitVec 32 := 0#32
  let v806 : BitVec 1 := Scalar.cmpi .eq c8_i32_619 c0_i32_620
  let c1_i32_621 : BitVec 32 := 1#32
  let v807 : BitVec 32 := Scalar.select v806 c1_i32_621 c8_i32_619
  let v808 : BitVec 32 := Scalar.remsi v805 v807
  let c0_i32_623 : BitVec 32 := 0#32
  let v810 : BitVec 1 := Scalar.cmpi .slt v808 c0_i32_623
  let c0_i32_624 : BitVec 32 := 0#32
  let v811 : BitVec 1 := Scalar.cmpi .slt v807 c0_i32_624
  let v812 : BitVec 1 := Scalar.xori v810 v811
  let c0_i32_622 : BitVec 32 := 0#32
  let v809 : BitVec 1 := Scalar.cmpi .ne v808 c0_i32_622
  let v813 : BitVec 1 := Scalar.andi v812 v809
  let v814 : BitVec 32 := Scalar.addi v808 v807
  let v815 : BitVec 32 := Scalar.select v813 v814 v808
  let c1_i32_631 : BitVec 32 := 1#32
  let v818 : BitVec 32 := Scalar.muli v815 c1_i32_631
  let v819 : BitVec 32 := Scalar.addi c0_i32_632 v818
  v819.toNat
def k0_dev23 (d0 : Dev nD) : Nat :=
  let c0_i32_649 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_635 : BitVec 32 := 2#32
  let v828 : BitVec 32 := Scalar.addi v2 c2_i32_635
  let c8_i32_636 : BitVec 32 := 8#32
  let c0_i32_637 : BitVec 32 := 0#32
  let v829 : BitVec 1 := Scalar.cmpi .eq c8_i32_636 c0_i32_637
  let c1_i32_638 : BitVec 32 := 1#32
  let v830 : BitVec 32 := Scalar.select v829 c1_i32_638 c8_i32_636
  let v831 : BitVec 32 := Scalar.remsi v828 v830
  let c0_i32_640 : BitVec 32 := 0#32
  let v833 : BitVec 1 := Scalar.cmpi .slt v831 c0_i32_640
  let c0_i32_641 : BitVec 32 := 0#32
  let v834 : BitVec 1 := Scalar.cmpi .slt v830 c0_i32_641
  let v835 : BitVec 1 := Scalar.xori v833 v834
  let c0_i32_639 : BitVec 32 := 0#32
  let v832 : BitVec 1 := Scalar.cmpi .ne v831 c0_i32_639
  let v836 : BitVec 1 := Scalar.andi v835 v832
  let v837 : BitVec 32 := Scalar.addi v831 v830
  let v838 : BitVec 32 := Scalar.select v836 v837 v831
  let c1_i32_648 : BitVec 32 := 1#32
  let v841 : BitVec 32 := Scalar.muli v838 c1_i32_648
  let v842 : BitVec 32 := Scalar.addi c0_i32_649 v841
  v842.toNat
def k0_dev24 (d0 : Dev nD) : Nat :=
  let c0_i32_666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_652 : BitVec 32 := 3#32
  let v851 : BitVec 32 := Scalar.addi v2 c3_i32_652
  let c8_i32_653 : BitVec 32 := 8#32
  let c0_i32_654 : BitVec 32 := 0#32
  let v852 : BitVec 1 := Scalar.cmpi .eq c8_i32_653 c0_i32_654
  let c1_i32_655 : BitVec 32 := 1#32
  let v853 : BitVec 32 := Scalar.select v852 c1_i32_655 c8_i32_653
  let v854 : BitVec 32 := Scalar.remsi v851 v853
  let c0_i32_657 : BitVec 32 := 0#32
  let v856 : BitVec 1 := Scalar.cmpi .slt v854 c0_i32_657
  let c0_i32_658 : BitVec 32 := 0#32
  let v857 : BitVec 1 := Scalar.cmpi .slt v853 c0_i32_658
  let v858 : BitVec 1 := Scalar.xori v856 v857
  let c0_i32_656 : BitVec 32 := 0#32
  let v855 : BitVec 1 := Scalar.cmpi .ne v854 c0_i32_656
  let v859 : BitVec 1 := Scalar.andi v858 v855
  let v860 : BitVec 32 := Scalar.addi v854 v853
  let v861 : BitVec 32 := Scalar.select v859 v860 v854
  let c1_i32_665 : BitVec 32 := 1#32
  let v864 : BitVec 32 := Scalar.muli v861 c1_i32_665
  let v865 : BitVec 32 := Scalar.addi c0_i32_666 v864
  v865.toNat
def k0_dev25 (d0 : Dev nD) : Nat :=
  let c0_i32_683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_669 : BitVec 32 := 4#32
  let v874 : BitVec 32 := Scalar.addi v2 c4_i32_669
  let c8_i32_670 : BitVec 32 := 8#32
  let c0_i32_671 : BitVec 32 := 0#32
  let v875 : BitVec 1 := Scalar.cmpi .eq c8_i32_670 c0_i32_671
  let c1_i32_672 : BitVec 32 := 1#32
  let v876 : BitVec 32 := Scalar.select v875 c1_i32_672 c8_i32_670
  let v877 : BitVec 32 := Scalar.remsi v874 v876
  let c0_i32_674 : BitVec 32 := 0#32
  let v879 : BitVec 1 := Scalar.cmpi .slt v877 c0_i32_674
  let c0_i32_675 : BitVec 32 := 0#32
  let v880 : BitVec 1 := Scalar.cmpi .slt v876 c0_i32_675
  let v881 : BitVec 1 := Scalar.xori v879 v880
  let c0_i32_673 : BitVec 32 := 0#32
  let v878 : BitVec 1 := Scalar.cmpi .ne v877 c0_i32_673
  let v882 : BitVec 1 := Scalar.andi v881 v878
  let v883 : BitVec 32 := Scalar.addi v877 v876
  let v884 : BitVec 32 := Scalar.select v882 v883 v877
  let c1_i32_682 : BitVec 32 := 1#32
  let v887 : BitVec 32 := Scalar.muli v884 c1_i32_682
  let v888 : BitVec 32 := Scalar.addi c0_i32_683 v887
  v888.toNat
def k0_dev26 (d0 : Dev nD) : Nat :=
  let c0_i32_700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_686 : BitVec 32 := 5#32
  let v897 : BitVec 32 := Scalar.addi v2 c5_i32_686
  let c8_i32_687 : BitVec 32 := 8#32
  let c0_i32_688 : BitVec 32 := 0#32
  let v898 : BitVec 1 := Scalar.cmpi .eq c8_i32_687 c0_i32_688
  let c1_i32_689 : BitVec 32 := 1#32
  let v899 : BitVec 32 := Scalar.select v898 c1_i32_689 c8_i32_687
  let v900 : BitVec 32 := Scalar.remsi v897 v899
  let c0_i32_691 : BitVec 32 := 0#32
  let v902 : BitVec 1 := Scalar.cmpi .slt v900 c0_i32_691
  let c0_i32_692 : BitVec 32 := 0#32
  let v903 : BitVec 1 := Scalar.cmpi .slt v899 c0_i32_692
  let v904 : BitVec 1 := Scalar.xori v902 v903
  let c0_i32_690 : BitVec 32 := 0#32
  let v901 : BitVec 1 := Scalar.cmpi .ne v900 c0_i32_690
  let v905 : BitVec 1 := Scalar.andi v904 v901
  let v906 : BitVec 32 := Scalar.addi v900 v899
  let v907 : BitVec 32 := Scalar.select v905 v906 v900
  let c1_i32_699 : BitVec 32 := 1#32
  let v910 : BitVec 32 := Scalar.muli v907 c1_i32_699
  let v911 : BitVec 32 := Scalar.addi c0_i32_700 v910
  v911.toNat
def k0_dev27 (d0 : Dev nD) : Nat :=
  let c0_i32_717 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_703 : BitVec 32 := 6#32
  let v920 : BitVec 32 := Scalar.addi v2 c6_i32_703
  let c8_i32_704 : BitVec 32 := 8#32
  let c0_i32_705 : BitVec 32 := 0#32
  let v921 : BitVec 1 := Scalar.cmpi .eq c8_i32_704 c0_i32_705
  let c1_i32_706 : BitVec 32 := 1#32
  let v922 : BitVec 32 := Scalar.select v921 c1_i32_706 c8_i32_704
  let v923 : BitVec 32 := Scalar.remsi v920 v922
  let c0_i32_708 : BitVec 32 := 0#32
  let v925 : BitVec 1 := Scalar.cmpi .slt v923 c0_i32_708
  let c0_i32_709 : BitVec 32 := 0#32
  let v926 : BitVec 1 := Scalar.cmpi .slt v922 c0_i32_709
  let v927 : BitVec 1 := Scalar.xori v925 v926
  let c0_i32_707 : BitVec 32 := 0#32
  let v924 : BitVec 1 := Scalar.cmpi .ne v923 c0_i32_707
  let v928 : BitVec 1 := Scalar.andi v927 v924
  let v929 : BitVec 32 := Scalar.addi v923 v922
  let v930 : BitVec 32 := Scalar.select v928 v929 v923
  let c1_i32_716 : BitVec 32 := 1#32
  let v933 : BitVec 32 := Scalar.muli v930 c1_i32_716
  let v934 : BitVec 32 := Scalar.addi c0_i32_717 v933
  v934.toNat
def k0_dev28 (d0 : Dev nD) : Nat :=
  let c0_i32_734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_720 : BitVec 32 := 7#32
  let v943 : BitVec 32 := Scalar.addi v2 c7_i32_720
  let c8_i32_721 : BitVec 32 := 8#32
  let c0_i32_722 : BitVec 32 := 0#32
  let v944 : BitVec 1 := Scalar.cmpi .eq c8_i32_721 c0_i32_722
  let c1_i32_723 : BitVec 32 := 1#32
  let v945 : BitVec 32 := Scalar.select v944 c1_i32_723 c8_i32_721
  let v946 : BitVec 32 := Scalar.remsi v943 v945
  let c0_i32_725 : BitVec 32 := 0#32
  let v948 : BitVec 1 := Scalar.cmpi .slt v946 c0_i32_725
  let c0_i32_726 : BitVec 32 := 0#32
  let v949 : BitVec 1 := Scalar.cmpi .slt v945 c0_i32_726
  let v950 : BitVec 1 := Scalar.xori v948 v949
  let c0_i32_724 : BitVec 32 := 0#32
  let v947 : BitVec 1 := Scalar.cmpi .ne v946 c0_i32_724
  let v951 : BitVec 1 := Scalar.andi v950 v947
  let v952 : BitVec 32 := Scalar.addi v946 v945
  let v953 : BitVec 32 := Scalar.select v951 v952 v946
  let c1_i32_733 : BitVec 32 := 1#32
  let v956 : BitVec 32 := Scalar.muli v953 c1_i32_733
  let v957 : BitVec 32 := Scalar.addi c0_i32_734 v956
  v957.toNat
def k0_off13 (d0 : Dev nD) (c1_i32_758 : BitVec 32) : Fin 3 → Nat :=
  let c1_i32_768 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v993 : BitVec 32 := Scalar.addi v2 c1_i32_758
  let c8_i32_759 : BitVec 32 := 8#32
  let c0_i32_760 : BitVec 32 := 0#32
  let v994 : BitVec 1 := Scalar.cmpi .eq c8_i32_759 c0_i32_760
  let c1_i32_761 : BitVec 32 := 1#32
  let v995 : BitVec 32 := Scalar.select v994 c1_i32_761 c8_i32_759
  let v996 : BitVec 32 := Scalar.remsi v993 v995
  let c0_i32_763 : BitVec 32 := 0#32
  let v998 : BitVec 1 := Scalar.cmpi .slt v996 c0_i32_763
  let c0_i32_764 : BitVec 32 := 0#32
  let v999 : BitVec 1 := Scalar.cmpi .slt v995 c0_i32_764
  let v1000 : BitVec 1 := Scalar.xori v998 v999
  let c0_i32_762 : BitVec 32 := 0#32
  let v997 : BitVec 1 := Scalar.cmpi .ne v996 c0_i32_762
  let v1001 : BitVec 1 := Scalar.andi v1000 v997
  let v1002 : BitVec 32 := Scalar.addi v996 v995
  let v1003 : BitVec 32 := Scalar.select v1001 v1002 v996
  let c64_i32_766 : BitVec 32 := 64#32
  let v1005 : BitVec 32 := Scalar.muli v1003 c64_i32_766
  let c0_i32_773 : BitVec 32 := 0#32
  ![1, v1005.toNat, 0]
def k0_off14 (d0 : Dev nD) (c1_i32_758 : BitVec 32) : Fin 3 → Nat :=
  let c1_776 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v993 : BitVec 32 := Scalar.addi v2 c1_i32_758
  let c8_i32_759 : BitVec 32 := 8#32
  let c0_i32_760 : BitVec 32 := 0#32
  let v994 : BitVec 1 := Scalar.cmpi .eq c8_i32_759 c0_i32_760
  let c1_i32_761 : BitVec 32 := 1#32
  let v995 : BitVec 32 := Scalar.select v994 c1_i32_761 c8_i32_759
  let v996 : BitVec 32 := Scalar.remsi v993 v995
  let c0_i32_763 : BitVec 32 := 0#32
  let v998 : BitVec 1 := Scalar.cmpi .slt v996 c0_i32_763
  let c0_i32_764 : BitVec 32 := 0#32
  let v999 : BitVec 1 := Scalar.cmpi .slt v995 c0_i32_764
  let v1000 : BitVec 1 := Scalar.xori v998 v999
  let c0_i32_762 : BitVec 32 := 0#32
  let v997 : BitVec 1 := Scalar.cmpi .ne v996 c0_i32_762
  let v1001 : BitVec 1 := Scalar.andi v1000 v997
  let v1002 : BitVec 32 := Scalar.addi v996 v995
  let v1003 : BitVec 32 := Scalar.select v1001 v1002 v996
  let c64_i32_775 : BitVec 32 := 64#32
  let v1014 : BitVec 32 := Scalar.muli v1003 c64_i32_775
  let v1015 : Index := Scalar.indexCast v1014
  let c0_777 : Index := 0#32
  ![1, v1015.toNat, 0]
def k0_dev29 (d0 : Dev nD) : Nat :=
  let c0_i32_795 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_758 : BitVec 32 := 1#32
  let v993 : BitVec 32 := Scalar.addi v2 c1_i32_758
  let c8_i32_759 : BitVec 32 := 8#32
  let c0_i32_760 : BitVec 32 := 0#32
  let v994 : BitVec 1 := Scalar.cmpi .eq c8_i32_759 c0_i32_760
  let c1_i32_761 : BitVec 32 := 1#32
  let v995 : BitVec 32 := Scalar.select v994 c1_i32_761 c8_i32_759
  let v996 : BitVec 32 := Scalar.remsi v993 v995
  let c0_i32_763 : BitVec 32 := 0#32
  let v998 : BitVec 1 := Scalar.cmpi .slt v996 c0_i32_763
  let c0_i32_764 : BitVec 32 := 0#32
  let v999 : BitVec 1 := Scalar.cmpi .slt v995 c0_i32_764
  let v1000 : BitVec 1 := Scalar.xori v998 v999
  let c0_i32_762 : BitVec 32 := 0#32
  let v997 : BitVec 1 := Scalar.cmpi .ne v996 c0_i32_762
  let v1001 : BitVec 1 := Scalar.andi v1000 v997
  let v1002 : BitVec 32 := Scalar.addi v996 v995
  let v1003 : BitVec 32 := Scalar.select v1001 v1002 v996
  let c1_i32_794 : BitVec 32 := 1#32
  let v1033 : BitVec 32 := Scalar.muli v1003 c1_i32_794
  let v1034 : BitVec 32 := Scalar.addi c0_i32_795 v1033
  v1034.toNat
def k0_dev30 (d0 : Dev nD) : Nat :=
  let c0_i32_835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_798 : BitVec 32 := 2#32
  let v1043 : BitVec 32 := Scalar.addi v2 c2_i32_798
  let c8_i32_799 : BitVec 32 := 8#32
  let c0_i32_800 : BitVec 32 := 0#32
  let v1044 : BitVec 1 := Scalar.cmpi .eq c8_i32_799 c0_i32_800
  let c1_i32_801 : BitVec 32 := 1#32
  let v1045 : BitVec 32 := Scalar.select v1044 c1_i32_801 c8_i32_799
  let v1046 : BitVec 32 := Scalar.remsi v1043 v1045
  let c0_i32_803 : BitVec 32 := 0#32
  let v1048 : BitVec 1 := Scalar.cmpi .slt v1046 c0_i32_803
  let c0_i32_804 : BitVec 32 := 0#32
  let v1049 : BitVec 1 := Scalar.cmpi .slt v1045 c0_i32_804
  let v1050 : BitVec 1 := Scalar.xori v1048 v1049
  let c0_i32_802 : BitVec 32 := 0#32
  let v1047 : BitVec 1 := Scalar.cmpi .ne v1046 c0_i32_802
  let v1051 : BitVec 1 := Scalar.andi v1050 v1047
  let v1052 : BitVec 32 := Scalar.addi v1046 v1045
  let v1053 : BitVec 32 := Scalar.select v1051 v1052 v1046
  let c1_i32_834 : BitVec 32 := 1#32
  let v1083 : BitVec 32 := Scalar.muli v1053 c1_i32_834
  let v1084 : BitVec 32 := Scalar.addi c0_i32_835 v1083
  v1084.toNat
def k0_dev31 (d0 : Dev nD) : Nat :=
  let c0_i32_875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_838 : BitVec 32 := 3#32
  let v1093 : BitVec 32 := Scalar.addi v2 c3_i32_838
  let c8_i32_839 : BitVec 32 := 8#32
  let c0_i32_840 : BitVec 32 := 0#32
  let v1094 : BitVec 1 := Scalar.cmpi .eq c8_i32_839 c0_i32_840
  let c1_i32_841 : BitVec 32 := 1#32
  let v1095 : BitVec 32 := Scalar.select v1094 c1_i32_841 c8_i32_839
  let v1096 : BitVec 32 := Scalar.remsi v1093 v1095
  let c0_i32_843 : BitVec 32 := 0#32
  let v1098 : BitVec 1 := Scalar.cmpi .slt v1096 c0_i32_843
  let c0_i32_844 : BitVec 32 := 0#32
  let v1099 : BitVec 1 := Scalar.cmpi .slt v1095 c0_i32_844
  let v1100 : BitVec 1 := Scalar.xori v1098 v1099
  let c0_i32_842 : BitVec 32 := 0#32
  let v1097 : BitVec 1 := Scalar.cmpi .ne v1096 c0_i32_842
  let v1101 : BitVec 1 := Scalar.andi v1100 v1097
  let v1102 : BitVec 32 := Scalar.addi v1096 v1095
  let v1103 : BitVec 32 := Scalar.select v1101 v1102 v1096
  let c1_i32_874 : BitVec 32 := 1#32
  let v1133 : BitVec 32 := Scalar.muli v1103 c1_i32_874
  let v1134 : BitVec 32 := Scalar.addi c0_i32_875 v1133
  v1134.toNat
def k0_dev32 (d0 : Dev nD) : Nat :=
  let c0_i32_915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_878 : BitVec 32 := 4#32
  let v1143 : BitVec 32 := Scalar.addi v2 c4_i32_878
  let c8_i32_879 : BitVec 32 := 8#32
  let c0_i32_880 : BitVec 32 := 0#32
  let v1144 : BitVec 1 := Scalar.cmpi .eq c8_i32_879 c0_i32_880
  let c1_i32_881 : BitVec 32 := 1#32
  let v1145 : BitVec 32 := Scalar.select v1144 c1_i32_881 c8_i32_879
  let v1146 : BitVec 32 := Scalar.remsi v1143 v1145
  let c0_i32_883 : BitVec 32 := 0#32
  let v1148 : BitVec 1 := Scalar.cmpi .slt v1146 c0_i32_883
  let c0_i32_884 : BitVec 32 := 0#32
  let v1149 : BitVec 1 := Scalar.cmpi .slt v1145 c0_i32_884
  let v1150 : BitVec 1 := Scalar.xori v1148 v1149
  let c0_i32_882 : BitVec 32 := 0#32
  let v1147 : BitVec 1 := Scalar.cmpi .ne v1146 c0_i32_882
  let v1151 : BitVec 1 := Scalar.andi v1150 v1147
  let v1152 : BitVec 32 := Scalar.addi v1146 v1145
  let v1153 : BitVec 32 := Scalar.select v1151 v1152 v1146
  let c1_i32_914 : BitVec 32 := 1#32
  let v1183 : BitVec 32 := Scalar.muli v1153 c1_i32_914
  let v1184 : BitVec 32 := Scalar.addi c0_i32_915 v1183
  v1184.toNat
def k0_dev33 (d0 : Dev nD) : Nat :=
  let c0_i32_955 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_918 : BitVec 32 := 5#32
  let v1193 : BitVec 32 := Scalar.addi v2 c5_i32_918
  let c8_i32_919 : BitVec 32 := 8#32
  let c0_i32_920 : BitVec 32 := 0#32
  let v1194 : BitVec 1 := Scalar.cmpi .eq c8_i32_919 c0_i32_920
  let c1_i32_921 : BitVec 32 := 1#32
  let v1195 : BitVec 32 := Scalar.select v1194 c1_i32_921 c8_i32_919
  let v1196 : BitVec 32 := Scalar.remsi v1193 v1195
  let c0_i32_923 : BitVec 32 := 0#32
  let v1198 : BitVec 1 := Scalar.cmpi .slt v1196 c0_i32_923
  let c0_i32_924 : BitVec 32 := 0#32
  let v1199 : BitVec 1 := Scalar.cmpi .slt v1195 c0_i32_924
  let v1200 : BitVec 1 := Scalar.xori v1198 v1199
  let c0_i32_922 : BitVec 32 := 0#32
  let v1197 : BitVec 1 := Scalar.cmpi .ne v1196 c0_i32_922
  let v1201 : BitVec 1 := Scalar.andi v1200 v1197
  let v1202 : BitVec 32 := Scalar.addi v1196 v1195
  let v1203 : BitVec 32 := Scalar.select v1201 v1202 v1196
  let c1_i32_954 : BitVec 32 := 1#32
  let v1233 : BitVec 32 := Scalar.muli v1203 c1_i32_954
  let v1234 : BitVec 32 := Scalar.addi c0_i32_955 v1233
  v1234.toNat
def k0_dev34 (d0 : Dev nD) : Nat :=
  let c0_i32_995 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_958 : BitVec 32 := 6#32
  let v1243 : BitVec 32 := Scalar.addi v2 c6_i32_958
  let c8_i32_959 : BitVec 32 := 8#32
  let c0_i32_960 : BitVec 32 := 0#32
  let v1244 : BitVec 1 := Scalar.cmpi .eq c8_i32_959 c0_i32_960
  let c1_i32_961 : BitVec 32 := 1#32
  let v1245 : BitVec 32 := Scalar.select v1244 c1_i32_961 c8_i32_959
  let v1246 : BitVec 32 := Scalar.remsi v1243 v1245
  let c0_i32_963 : BitVec 32 := 0#32
  let v1248 : BitVec 1 := Scalar.cmpi .slt v1246 c0_i32_963
  let c0_i32_964 : BitVec 32 := 0#32
  let v1249 : BitVec 1 := Scalar.cmpi .slt v1245 c0_i32_964
  let v1250 : BitVec 1 := Scalar.xori v1248 v1249
  let c0_i32_962 : BitVec 32 := 0#32
  let v1247 : BitVec 1 := Scalar.cmpi .ne v1246 c0_i32_962
  let v1251 : BitVec 1 := Scalar.andi v1250 v1247
  let v1252 : BitVec 32 := Scalar.addi v1246 v1245
  let v1253 : BitVec 32 := Scalar.select v1251 v1252 v1246
  let c1_i32_994 : BitVec 32 := 1#32
  let v1283 : BitVec 32 := Scalar.muli v1253 c1_i32_994
  let v1284 : BitVec 32 := Scalar.addi c0_i32_995 v1283
  v1284.toNat
def k0_dev35 (d0 : Dev nD) : Nat :=
  let c0_i32_1035 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_998 : BitVec 32 := 7#32
  let v1293 : BitVec 32 := Scalar.addi v2 c7_i32_998
  let c8_i32_999 : BitVec 32 := 8#32
  let c0_i32_1000 : BitVec 32 := 0#32
  let v1294 : BitVec 1 := Scalar.cmpi .eq c8_i32_999 c0_i32_1000
  let c1_i32_1001 : BitVec 32 := 1#32
  let v1295 : BitVec 32 := Scalar.select v1294 c1_i32_1001 c8_i32_999
  let v1296 : BitVec 32 := Scalar.remsi v1293 v1295
  let c0_i32_1003 : BitVec 32 := 0#32
  let v1298 : BitVec 1 := Scalar.cmpi .slt v1296 c0_i32_1003
  let c0_i32_1004 : BitVec 32 := 0#32
  let v1299 : BitVec 1 := Scalar.cmpi .slt v1295 c0_i32_1004
  let v1300 : BitVec 1 := Scalar.xori v1298 v1299
  let c0_i32_1002 : BitVec 32 := 0#32
  let v1297 : BitVec 1 := Scalar.cmpi .ne v1296 c0_i32_1002
  let v1301 : BitVec 1 := Scalar.andi v1300 v1297
  let v1302 : BitVec 32 := Scalar.addi v1296 v1295
  let v1303 : BitVec 32 := Scalar.select v1301 v1302 v1296
  let c1_i32_1034 : BitVec 32 := 1#32
  let v1333 : BitVec 32 := Scalar.muli v1303 c1_i32_1034
  let v1334 : BitVec 32 := Scalar.addi c0_i32_1035 v1333
  v1334.toNat
def k0_off15 (d0 : Dev nD) (c1_i32_1039 : BitVec 32) : Fin 2 → Nat :=
  let c1_i32_1050 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1038 : BitVec 32 := 8#32
  let v1343 : BitVec 32 := Scalar.addi v2 c8_i32_1038
  let v1344 : BitVec 32 := Scalar.subi v1343 c1_i32_1039
  let c8_i32_1040 : BitVec 32 := 8#32
  let c0_i32_1041 : BitVec 32 := 0#32
  let v1345 : BitVec 1 := Scalar.cmpi .eq c8_i32_1040 c0_i32_1041
  let c1_i32_1042 : BitVec 32 := 1#32
  let v1346 : BitVec 32 := Scalar.select v1345 c1_i32_1042 c8_i32_1040
  let v1347 : BitVec 32 := Scalar.remsi v1344 v1346
  let c0_i32_1044 : BitVec 32 := 0#32
  let v1349 : BitVec 1 := Scalar.cmpi .slt v1347 c0_i32_1044
  let c0_i32_1045 : BitVec 32 := 0#32
  let v1350 : BitVec 1 := Scalar.cmpi .slt v1346 c0_i32_1045
  let v1351 : BitVec 1 := Scalar.xori v1349 v1350
  let c0_i32_1043 : BitVec 32 := 0#32
  let v1348 : BitVec 1 := Scalar.cmpi .ne v1347 c0_i32_1043
  let v1352 : BitVec 1 := Scalar.andi v1351 v1348
  let v1353 : BitVec 32 := Scalar.addi v1347 v1346
  let v1354 : BitVec 32 := Scalar.select v1352 v1353 v1347
  ![1, v1354.toNat]
def k0_off16 (d0 : Dev nD) (c1_i32_1039 : BitVec 32) : Fin 3 → Nat :=
  let c1_i32_1049 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1038 : BitVec 32 := 8#32
  let v1343 : BitVec 32 := Scalar.addi v2 c8_i32_1038
  let v1344 : BitVec 32 := Scalar.subi v1343 c1_i32_1039
  let c8_i32_1040 : BitVec 32 := 8#32
  let c0_i32_1041 : BitVec 32 := 0#32
  let v1345 : BitVec 1 := Scalar.cmpi .eq c8_i32_1040 c0_i32_1041
  let c1_i32_1042 : BitVec 32 := 1#32
  let v1346 : BitVec 32 := Scalar.select v1345 c1_i32_1042 c8_i32_1040
  let v1347 : BitVec 32 := Scalar.remsi v1344 v1346
  let c0_i32_1044 : BitVec 32 := 0#32
  let v1349 : BitVec 1 := Scalar.cmpi .slt v1347 c0_i32_1044
  let c0_i32_1045 : BitVec 32 := 0#32
  let v1350 : BitVec 1 := Scalar.cmpi .slt v1346 c0_i32_1045
  let v1351 : BitVec 1 := Scalar.xori v1349 v1350
  let c0_i32_1043 : BitVec 32 := 0#32
  let v1348 : BitVec 1 := Scalar.cmpi .ne v1347 c0_i32_1043
  let v1352 : BitVec 1 := Scalar.andi v1351 v1348
  let v1353 : BitVec 32 := Scalar.addi v1347 v1346
  let v1354 : BitVec 32 := Scalar.select v1352 v1353 v1347
  let c64_i32_1047 : BitVec 32 := 64#32
  let v1356 : BitVec 32 := Scalar.muli v1354 c64_i32_1047
  let c0_i32_1054 : BitVec 32 := 0#32
  ![1, v1356.toNat, 0]
def k0_off17 (d0 : Dev nD) : Fin 3 → Nat :=
  let c2 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_1168 : BitVec 32 := 64#32
  let v1503 : BitVec 32 := Scalar.muli v2 c64_i32_1168
  let v1504 : Index := Scalar.indexCast v1503
  let c0_1169 : Index := 0#32
  ![2, v1504.toNat, 0]
def k0_off18 (d0 : Dev nD) (c1_i32_1170 : BitVec 32) : Fin 2 → Nat :=
  let c2_i32_1182 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1508 : BitVec 32 := Scalar.addi v2 c1_i32_1170
  let c8_i32_1171 : BitVec 32 := 8#32
  let c0_i32_1172 : BitVec 32 := 0#32
  let v1509 : BitVec 1 := Scalar.cmpi .eq c8_i32_1171 c0_i32_1172
  let c1_i32_1173 : BitVec 32 := 1#32
  let v1510 : BitVec 32 := Scalar.select v1509 c1_i32_1173 c8_i32_1171
  let v1511 : BitVec 32 := Scalar.remsi v1508 v1510
  let c0_i32_1175 : BitVec 32 := 0#32
  let v1513 : BitVec 1 := Scalar.cmpi .slt v1511 c0_i32_1175
  let c0_i32_1176 : BitVec 32 := 0#32
  let v1514 : BitVec 1 := Scalar.cmpi .slt v1510 c0_i32_1176
  let v1515 : BitVec 1 := Scalar.xori v1513 v1514
  let c0_i32_1174 : BitVec 32 := 0#32
  let v1512 : BitVec 1 := Scalar.cmpi .ne v1511 c0_i32_1174
  let v1516 : BitVec 1 := Scalar.andi v1515 v1512
  let v1517 : BitVec 32 := Scalar.addi v1511 v1510
  let v1518 : BitVec 32 := Scalar.select v1516 v1517 v1511
  ![2, v1518.toNat]
def k0_off19 (d0 : Dev nD) : Fin 2 → Nat :=
  let c2_i32_1181 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off20 (d0 : Dev nD) : Fin 3 → Nat :=
  let c2_i32_1180 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_1178 : BitVec 32 := 64#32
  let v1520 : BitVec 32 := Scalar.muli v2 c64_i32_1178
  let c0_i32_1185 : BitVec 32 := 0#32
  ![2, v1520.toNat, 0]
def k0_dev36 (d0 : Dev nD) : Nat :=
  let c0_i32_1184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1170 : BitVec 32 := 1#32
  let v1508 : BitVec 32 := Scalar.addi v2 c1_i32_1170
  let c8_i32_1171 : BitVec 32 := 8#32
  let c0_i32_1172 : BitVec 32 := 0#32
  let v1509 : BitVec 1 := Scalar.cmpi .eq c8_i32_1171 c0_i32_1172
  let c1_i32_1173 : BitVec 32 := 1#32
  let v1510 : BitVec 32 := Scalar.select v1509 c1_i32_1173 c8_i32_1171
  let v1511 : BitVec 32 := Scalar.remsi v1508 v1510
  let c0_i32_1175 : BitVec 32 := 0#32
  let v1513 : BitVec 1 := Scalar.cmpi .slt v1511 c0_i32_1175
  let c0_i32_1176 : BitVec 32 := 0#32
  let v1514 : BitVec 1 := Scalar.cmpi .slt v1510 c0_i32_1176
  let v1515 : BitVec 1 := Scalar.xori v1513 v1514
  let c0_i32_1174 : BitVec 32 := 0#32
  let v1512 : BitVec 1 := Scalar.cmpi .ne v1511 c0_i32_1174
  let v1516 : BitVec 1 := Scalar.andi v1515 v1512
  let v1517 : BitVec 32 := Scalar.addi v1511 v1510
  let v1518 : BitVec 32 := Scalar.select v1516 v1517 v1511
  let c1_i32_1183 : BitVec 32 := 1#32
  let v1521 : BitVec 32 := Scalar.muli v1518 c1_i32_1183
  let v1522 : BitVec 32 := Scalar.addi c0_i32_1184 v1521
  v1522.toNat
def k0_dev37 (d0 : Dev nD) : Nat :=
  let c0_i32_1201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1187 : BitVec 32 := 2#32
  let v1531 : BitVec 32 := Scalar.addi v2 c2_i32_1187
  let c8_i32_1188 : BitVec 32 := 8#32
  let c0_i32_1189 : BitVec 32 := 0#32
  let v1532 : BitVec 1 := Scalar.cmpi .eq c8_i32_1188 c0_i32_1189
  let c1_i32_1190 : BitVec 32 := 1#32
  let v1533 : BitVec 32 := Scalar.select v1532 c1_i32_1190 c8_i32_1188
  let v1534 : BitVec 32 := Scalar.remsi v1531 v1533
  let c0_i32_1192 : BitVec 32 := 0#32
  let v1536 : BitVec 1 := Scalar.cmpi .slt v1534 c0_i32_1192
  let c0_i32_1193 : BitVec 32 := 0#32
  let v1537 : BitVec 1 := Scalar.cmpi .slt v1533 c0_i32_1193
  let v1538 : BitVec 1 := Scalar.xori v1536 v1537
  let c0_i32_1191 : BitVec 32 := 0#32
  let v1535 : BitVec 1 := Scalar.cmpi .ne v1534 c0_i32_1191
  let v1539 : BitVec 1 := Scalar.andi v1538 v1535
  let v1540 : BitVec 32 := Scalar.addi v1534 v1533
  let v1541 : BitVec 32 := Scalar.select v1539 v1540 v1534
  let c1_i32_1200 : BitVec 32 := 1#32
  let v1544 : BitVec 32 := Scalar.muli v1541 c1_i32_1200
  let v1545 : BitVec 32 := Scalar.addi c0_i32_1201 v1544
  v1545.toNat
def k0_dev38 (d0 : Dev nD) : Nat :=
  let c0_i32_1218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1204 : BitVec 32 := 3#32
  let v1554 : BitVec 32 := Scalar.addi v2 c3_i32_1204
  let c8_i32_1205 : BitVec 32 := 8#32
  let c0_i32_1206 : BitVec 32 := 0#32
  let v1555 : BitVec 1 := Scalar.cmpi .eq c8_i32_1205 c0_i32_1206
  let c1_i32_1207 : BitVec 32 := 1#32
  let v1556 : BitVec 32 := Scalar.select v1555 c1_i32_1207 c8_i32_1205
  let v1557 : BitVec 32 := Scalar.remsi v1554 v1556
  let c0_i32_1209 : BitVec 32 := 0#32
  let v1559 : BitVec 1 := Scalar.cmpi .slt v1557 c0_i32_1209
  let c0_i32_1210 : BitVec 32 := 0#32
  let v1560 : BitVec 1 := Scalar.cmpi .slt v1556 c0_i32_1210
  let v1561 : BitVec 1 := Scalar.xori v1559 v1560
  let c0_i32_1208 : BitVec 32 := 0#32
  let v1558 : BitVec 1 := Scalar.cmpi .ne v1557 c0_i32_1208
  let v1562 : BitVec 1 := Scalar.andi v1561 v1558
  let v1563 : BitVec 32 := Scalar.addi v1557 v1556
  let v1564 : BitVec 32 := Scalar.select v1562 v1563 v1557
  let c1_i32_1217 : BitVec 32 := 1#32
  let v1567 : BitVec 32 := Scalar.muli v1564 c1_i32_1217
  let v1568 : BitVec 32 := Scalar.addi c0_i32_1218 v1567
  v1568.toNat
def k0_dev39 (d0 : Dev nD) : Nat :=
  let c0_i32_1235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1221 : BitVec 32 := 4#32
  let v1577 : BitVec 32 := Scalar.addi v2 c4_i32_1221
  let c8_i32_1222 : BitVec 32 := 8#32
  let c0_i32_1223 : BitVec 32 := 0#32
  let v1578 : BitVec 1 := Scalar.cmpi .eq c8_i32_1222 c0_i32_1223
  let c1_i32_1224 : BitVec 32 := 1#32
  let v1579 : BitVec 32 := Scalar.select v1578 c1_i32_1224 c8_i32_1222
  let v1580 : BitVec 32 := Scalar.remsi v1577 v1579
  let c0_i32_1226 : BitVec 32 := 0#32
  let v1582 : BitVec 1 := Scalar.cmpi .slt v1580 c0_i32_1226
  let c0_i32_1227 : BitVec 32 := 0#32
  let v1583 : BitVec 1 := Scalar.cmpi .slt v1579 c0_i32_1227
  let v1584 : BitVec 1 := Scalar.xori v1582 v1583
  let c0_i32_1225 : BitVec 32 := 0#32
  let v1581 : BitVec 1 := Scalar.cmpi .ne v1580 c0_i32_1225
  let v1585 : BitVec 1 := Scalar.andi v1584 v1581
  let v1586 : BitVec 32 := Scalar.addi v1580 v1579
  let v1587 : BitVec 32 := Scalar.select v1585 v1586 v1580
  let c1_i32_1234 : BitVec 32 := 1#32
  let v1590 : BitVec 32 := Scalar.muli v1587 c1_i32_1234
  let v1591 : BitVec 32 := Scalar.addi c0_i32_1235 v1590
  v1591.toNat
def k0_dev40 (d0 : Dev nD) : Nat :=
  let c0_i32_1252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1238 : BitVec 32 := 5#32
  let v1600 : BitVec 32 := Scalar.addi v2 c5_i32_1238
  let c8_i32_1239 : BitVec 32 := 8#32
  let c0_i32_1240 : BitVec 32 := 0#32
  let v1601 : BitVec 1 := Scalar.cmpi .eq c8_i32_1239 c0_i32_1240
  let c1_i32_1241 : BitVec 32 := 1#32
  let v1602 : BitVec 32 := Scalar.select v1601 c1_i32_1241 c8_i32_1239
  let v1603 : BitVec 32 := Scalar.remsi v1600 v1602
  let c0_i32_1243 : BitVec 32 := 0#32
  let v1605 : BitVec 1 := Scalar.cmpi .slt v1603 c0_i32_1243
  let c0_i32_1244 : BitVec 32 := 0#32
  let v1606 : BitVec 1 := Scalar.cmpi .slt v1602 c0_i32_1244
  let v1607 : BitVec 1 := Scalar.xori v1605 v1606
  let c0_i32_1242 : BitVec 32 := 0#32
  let v1604 : BitVec 1 := Scalar.cmpi .ne v1603 c0_i32_1242
  let v1608 : BitVec 1 := Scalar.andi v1607 v1604
  let v1609 : BitVec 32 := Scalar.addi v1603 v1602
  let v1610 : BitVec 32 := Scalar.select v1608 v1609 v1603
  let c1_i32_1251 : BitVec 32 := 1#32
  let v1613 : BitVec 32 := Scalar.muli v1610 c1_i32_1251
  let v1614 : BitVec 32 := Scalar.addi c0_i32_1252 v1613
  v1614.toNat
def k0_dev41 (d0 : Dev nD) : Nat :=
  let c0_i32_1269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1255 : BitVec 32 := 6#32
  let v1623 : BitVec 32 := Scalar.addi v2 c6_i32_1255
  let c8_i32_1256 : BitVec 32 := 8#32
  let c0_i32_1257 : BitVec 32 := 0#32
  let v1624 : BitVec 1 := Scalar.cmpi .eq c8_i32_1256 c0_i32_1257
  let c1_i32_1258 : BitVec 32 := 1#32
  let v1625 : BitVec 32 := Scalar.select v1624 c1_i32_1258 c8_i32_1256
  let v1626 : BitVec 32 := Scalar.remsi v1623 v1625
  let c0_i32_1260 : BitVec 32 := 0#32
  let v1628 : BitVec 1 := Scalar.cmpi .slt v1626 c0_i32_1260
  let c0_i32_1261 : BitVec 32 := 0#32
  let v1629 : BitVec 1 := Scalar.cmpi .slt v1625 c0_i32_1261
  let v1630 : BitVec 1 := Scalar.xori v1628 v1629
  let c0_i32_1259 : BitVec 32 := 0#32
  let v1627 : BitVec 1 := Scalar.cmpi .ne v1626 c0_i32_1259
  let v1631 : BitVec 1 := Scalar.andi v1630 v1627
  let v1632 : BitVec 32 := Scalar.addi v1626 v1625
  let v1633 : BitVec 32 := Scalar.select v1631 v1632 v1626
  let c1_i32_1268 : BitVec 32 := 1#32
  let v1636 : BitVec 32 := Scalar.muli v1633 c1_i32_1268
  let v1637 : BitVec 32 := Scalar.addi c0_i32_1269 v1636
  v1637.toNat
def k0_dev42 (d0 : Dev nD) : Nat :=
  let c0_i32_1286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1272 : BitVec 32 := 7#32
  let v1646 : BitVec 32 := Scalar.addi v2 c7_i32_1272
  let c8_i32_1273 : BitVec 32 := 8#32
  let c0_i32_1274 : BitVec 32 := 0#32
  let v1647 : BitVec 1 := Scalar.cmpi .eq c8_i32_1273 c0_i32_1274
  let c1_i32_1275 : BitVec 32 := 1#32
  let v1648 : BitVec 32 := Scalar.select v1647 c1_i32_1275 c8_i32_1273
  let v1649 : BitVec 32 := Scalar.remsi v1646 v1648
  let c0_i32_1277 : BitVec 32 := 0#32
  let v1651 : BitVec 1 := Scalar.cmpi .slt v1649 c0_i32_1277
  let c0_i32_1278 : BitVec 32 := 0#32
  let v1652 : BitVec 1 := Scalar.cmpi .slt v1648 c0_i32_1278
  let v1653 : BitVec 1 := Scalar.xori v1651 v1652
  let c0_i32_1276 : BitVec 32 := 0#32
  let v1650 : BitVec 1 := Scalar.cmpi .ne v1649 c0_i32_1276
  let v1654 : BitVec 1 := Scalar.andi v1653 v1650
  let v1655 : BitVec 32 := Scalar.addi v1649 v1648
  let v1656 : BitVec 32 := Scalar.select v1654 v1655 v1649
  let c1_i32_1285 : BitVec 32 := 1#32
  let v1659 : BitVec 32 := Scalar.muli v1656 c1_i32_1285
  let v1660 : BitVec 32 := Scalar.addi c0_i32_1286 v1659
  v1660.toNat
def k0_off21 (d0 : Dev nD) (c1_i32_1310 : BitVec 32) : Fin 3 → Nat :=
  let c2_i32_1320 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1696 : BitVec 32 := Scalar.addi v2 c1_i32_1310
  let c8_i32_1311 : BitVec 32 := 8#32
  let c0_i32_1312 : BitVec 32 := 0#32
  let v1697 : BitVec 1 := Scalar.cmpi .eq c8_i32_1311 c0_i32_1312
  let c1_i32_1313 : BitVec 32 := 1#32
  let v1698 : BitVec 32 := Scalar.select v1697 c1_i32_1313 c8_i32_1311
  let v1699 : BitVec 32 := Scalar.remsi v1696 v1698
  let c0_i32_1315 : BitVec 32 := 0#32
  let v1701 : BitVec 1 := Scalar.cmpi .slt v1699 c0_i32_1315
  let c0_i32_1316 : BitVec 32 := 0#32
  let v1702 : BitVec 1 := Scalar.cmpi .slt v1698 c0_i32_1316
  let v1703 : BitVec 1 := Scalar.xori v1701 v1702
  let c0_i32_1314 : BitVec 32 := 0#32
  let v1700 : BitVec 1 := Scalar.cmpi .ne v1699 c0_i32_1314
  let v1704 : BitVec 1 := Scalar.andi v1703 v1700
  let v1705 : BitVec 32 := Scalar.addi v1699 v1698
  let v1706 : BitVec 32 := Scalar.select v1704 v1705 v1699
  let c64_i32_1318 : BitVec 32 := 64#32
  let v1708 : BitVec 32 := Scalar.muli v1706 c64_i32_1318
  let c0_i32_1325 : BitVec 32 := 0#32
  ![2, v1708.toNat, 0]
def k0_off22 (d0 : Dev nD) (c1_i32_1310 : BitVec 32) : Fin 3 → Nat :=
  let c2_1328 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1696 : BitVec 32 := Scalar.addi v2 c1_i32_1310
  let c8_i32_1311 : BitVec 32 := 8#32
  let c0_i32_1312 : BitVec 32 := 0#32
  let v1697 : BitVec 1 := Scalar.cmpi .eq c8_i32_1311 c0_i32_1312
  let c1_i32_1313 : BitVec 32 := 1#32
  let v1698 : BitVec 32 := Scalar.select v1697 c1_i32_1313 c8_i32_1311
  let v1699 : BitVec 32 := Scalar.remsi v1696 v1698
  let c0_i32_1315 : BitVec 32 := 0#32
  let v1701 : BitVec 1 := Scalar.cmpi .slt v1699 c0_i32_1315
  let c0_i32_1316 : BitVec 32 := 0#32
  let v1702 : BitVec 1 := Scalar.cmpi .slt v1698 c0_i32_1316
  let v1703 : BitVec 1 := Scalar.xori v1701 v1702
  let c0_i32_1314 : BitVec 32 := 0#32
  let v1700 : BitVec 1 := Scalar.cmpi .ne v1699 c0_i32_1314
  let v1704 : BitVec 1 := Scalar.andi v1703 v1700
  let v1705 : BitVec 32 := Scalar.addi v1699 v1698
  let v1706 : BitVec 32 := Scalar.select v1704 v1705 v1699
  let c64_i32_1327 : BitVec 32 := 64#32
  let v1717 : BitVec 32 := Scalar.muli v1706 c64_i32_1327
  let v1718 : Index := Scalar.indexCast v1717
  let c0_1329 : Index := 0#32
  ![2, v1718.toNat, 0]
def k0_dev43 (d0 : Dev nD) : Nat :=
  let c0_i32_1347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1310 : BitVec 32 := 1#32
  let v1696 : BitVec 32 := Scalar.addi v2 c1_i32_1310
  let c8_i32_1311 : BitVec 32 := 8#32
  let c0_i32_1312 : BitVec 32 := 0#32
  let v1697 : BitVec 1 := Scalar.cmpi .eq c8_i32_1311 c0_i32_1312
  let c1_i32_1313 : BitVec 32 := 1#32
  let v1698 : BitVec 32 := Scalar.select v1697 c1_i32_1313 c8_i32_1311
  let v1699 : BitVec 32 := Scalar.remsi v1696 v1698
  let c0_i32_1315 : BitVec 32 := 0#32
  let v1701 : BitVec 1 := Scalar.cmpi .slt v1699 c0_i32_1315
  let c0_i32_1316 : BitVec 32 := 0#32
  let v1702 : BitVec 1 := Scalar.cmpi .slt v1698 c0_i32_1316
  let v1703 : BitVec 1 := Scalar.xori v1701 v1702
  let c0_i32_1314 : BitVec 32 := 0#32
  let v1700 : BitVec 1 := Scalar.cmpi .ne v1699 c0_i32_1314
  let v1704 : BitVec 1 := Scalar.andi v1703 v1700
  let v1705 : BitVec 32 := Scalar.addi v1699 v1698
  let v1706 : BitVec 32 := Scalar.select v1704 v1705 v1699
  let c1_i32_1346 : BitVec 32 := 1#32
  let v1736 : BitVec 32 := Scalar.muli v1706 c1_i32_1346
  let v1737 : BitVec 32 := Scalar.addi c0_i32_1347 v1736
  v1737.toNat
def k0_dev44 (d0 : Dev nD) : Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1350 : BitVec 32 := 2#32
  let v1746 : BitVec 32 := Scalar.addi v2 c2_i32_1350
  let c8_i32_1351 : BitVec 32 := 8#32
  let c0_i32_1352 : BitVec 32 := 0#32
  let v1747 : BitVec 1 := Scalar.cmpi .eq c8_i32_1351 c0_i32_1352
  let c1_i32_1353 : BitVec 32 := 1#32
  let v1748 : BitVec 32 := Scalar.select v1747 c1_i32_1353 c8_i32_1351
  let v1749 : BitVec 32 := Scalar.remsi v1746 v1748
  let c0_i32_1355 : BitVec 32 := 0#32
  let v1751 : BitVec 1 := Scalar.cmpi .slt v1749 c0_i32_1355
  let c0_i32_1356 : BitVec 32 := 0#32
  let v1752 : BitVec 1 := Scalar.cmpi .slt v1748 c0_i32_1356
  let v1753 : BitVec 1 := Scalar.xori v1751 v1752
  let c0_i32_1354 : BitVec 32 := 0#32
  let v1750 : BitVec 1 := Scalar.cmpi .ne v1749 c0_i32_1354
  let v1754 : BitVec 1 := Scalar.andi v1753 v1750
  let v1755 : BitVec 32 := Scalar.addi v1749 v1748
  let v1756 : BitVec 32 := Scalar.select v1754 v1755 v1749
  let c1_i32_1386 : BitVec 32 := 1#32
  let v1786 : BitVec 32 := Scalar.muli v1756 c1_i32_1386
  let v1787 : BitVec 32 := Scalar.addi c0_i32_1387 v1786
  v1787.toNat
def k0_dev45 (d0 : Dev nD) : Nat :=
  let c0_i32_1427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1390 : BitVec 32 := 3#32
  let v1796 : BitVec 32 := Scalar.addi v2 c3_i32_1390
  let c8_i32_1391 : BitVec 32 := 8#32
  let c0_i32_1392 : BitVec 32 := 0#32
  let v1797 : BitVec 1 := Scalar.cmpi .eq c8_i32_1391 c0_i32_1392
  let c1_i32_1393 : BitVec 32 := 1#32
  let v1798 : BitVec 32 := Scalar.select v1797 c1_i32_1393 c8_i32_1391
  let v1799 : BitVec 32 := Scalar.remsi v1796 v1798
  let c0_i32_1395 : BitVec 32 := 0#32
  let v1801 : BitVec 1 := Scalar.cmpi .slt v1799 c0_i32_1395
  let c0_i32_1396 : BitVec 32 := 0#32
  let v1802 : BitVec 1 := Scalar.cmpi .slt v1798 c0_i32_1396
  let v1803 : BitVec 1 := Scalar.xori v1801 v1802
  let c0_i32_1394 : BitVec 32 := 0#32
  let v1800 : BitVec 1 := Scalar.cmpi .ne v1799 c0_i32_1394
  let v1804 : BitVec 1 := Scalar.andi v1803 v1800
  let v1805 : BitVec 32 := Scalar.addi v1799 v1798
  let v1806 : BitVec 32 := Scalar.select v1804 v1805 v1799
  let c1_i32_1426 : BitVec 32 := 1#32
  let v1836 : BitVec 32 := Scalar.muli v1806 c1_i32_1426
  let v1837 : BitVec 32 := Scalar.addi c0_i32_1427 v1836
  v1837.toNat
def k0_dev46 (d0 : Dev nD) : Nat :=
  let c0_i32_1467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1430 : BitVec 32 := 4#32
  let v1846 : BitVec 32 := Scalar.addi v2 c4_i32_1430
  let c8_i32_1431 : BitVec 32 := 8#32
  let c0_i32_1432 : BitVec 32 := 0#32
  let v1847 : BitVec 1 := Scalar.cmpi .eq c8_i32_1431 c0_i32_1432
  let c1_i32_1433 : BitVec 32 := 1#32
  let v1848 : BitVec 32 := Scalar.select v1847 c1_i32_1433 c8_i32_1431
  let v1849 : BitVec 32 := Scalar.remsi v1846 v1848
  let c0_i32_1435 : BitVec 32 := 0#32
  let v1851 : BitVec 1 := Scalar.cmpi .slt v1849 c0_i32_1435
  let c0_i32_1436 : BitVec 32 := 0#32
  let v1852 : BitVec 1 := Scalar.cmpi .slt v1848 c0_i32_1436
  let v1853 : BitVec 1 := Scalar.xori v1851 v1852
  let c0_i32_1434 : BitVec 32 := 0#32
  let v1850 : BitVec 1 := Scalar.cmpi .ne v1849 c0_i32_1434
  let v1854 : BitVec 1 := Scalar.andi v1853 v1850
  let v1855 : BitVec 32 := Scalar.addi v1849 v1848
  let v1856 : BitVec 32 := Scalar.select v1854 v1855 v1849
  let c1_i32_1466 : BitVec 32 := 1#32
  let v1886 : BitVec 32 := Scalar.muli v1856 c1_i32_1466
  let v1887 : BitVec 32 := Scalar.addi c0_i32_1467 v1886
  v1887.toNat
def k0_dev47 (d0 : Dev nD) : Nat :=
  let c0_i32_1507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1470 : BitVec 32 := 5#32
  let v1896 : BitVec 32 := Scalar.addi v2 c5_i32_1470
  let c8_i32_1471 : BitVec 32 := 8#32
  let c0_i32_1472 : BitVec 32 := 0#32
  let v1897 : BitVec 1 := Scalar.cmpi .eq c8_i32_1471 c0_i32_1472
  let c1_i32_1473 : BitVec 32 := 1#32
  let v1898 : BitVec 32 := Scalar.select v1897 c1_i32_1473 c8_i32_1471
  let v1899 : BitVec 32 := Scalar.remsi v1896 v1898
  let c0_i32_1475 : BitVec 32 := 0#32
  let v1901 : BitVec 1 := Scalar.cmpi .slt v1899 c0_i32_1475
  let c0_i32_1476 : BitVec 32 := 0#32
  let v1902 : BitVec 1 := Scalar.cmpi .slt v1898 c0_i32_1476
  let v1903 : BitVec 1 := Scalar.xori v1901 v1902
  let c0_i32_1474 : BitVec 32 := 0#32
  let v1900 : BitVec 1 := Scalar.cmpi .ne v1899 c0_i32_1474
  let v1904 : BitVec 1 := Scalar.andi v1903 v1900
  let v1905 : BitVec 32 := Scalar.addi v1899 v1898
  let v1906 : BitVec 32 := Scalar.select v1904 v1905 v1899
  let c1_i32_1506 : BitVec 32 := 1#32
  let v1936 : BitVec 32 := Scalar.muli v1906 c1_i32_1506
  let v1937 : BitVec 32 := Scalar.addi c0_i32_1507 v1936
  v1937.toNat
def k0_dev48 (d0 : Dev nD) : Nat :=
  let c0_i32_1547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1510 : BitVec 32 := 6#32
  let v1946 : BitVec 32 := Scalar.addi v2 c6_i32_1510
  let c8_i32_1511 : BitVec 32 := 8#32
  let c0_i32_1512 : BitVec 32 := 0#32
  let v1947 : BitVec 1 := Scalar.cmpi .eq c8_i32_1511 c0_i32_1512
  let c1_i32_1513 : BitVec 32 := 1#32
  let v1948 : BitVec 32 := Scalar.select v1947 c1_i32_1513 c8_i32_1511
  let v1949 : BitVec 32 := Scalar.remsi v1946 v1948
  let c0_i32_1515 : BitVec 32 := 0#32
  let v1951 : BitVec 1 := Scalar.cmpi .slt v1949 c0_i32_1515
  let c0_i32_1516 : BitVec 32 := 0#32
  let v1952 : BitVec 1 := Scalar.cmpi .slt v1948 c0_i32_1516
  let v1953 : BitVec 1 := Scalar.xori v1951 v1952
  let c0_i32_1514 : BitVec 32 := 0#32
  let v1950 : BitVec 1 := Scalar.cmpi .ne v1949 c0_i32_1514
  let v1954 : BitVec 1 := Scalar.andi v1953 v1950
  let v1955 : BitVec 32 := Scalar.addi v1949 v1948
  let v1956 : BitVec 32 := Scalar.select v1954 v1955 v1949
  let c1_i32_1546 : BitVec 32 := 1#32
  let v1986 : BitVec 32 := Scalar.muli v1956 c1_i32_1546
  let v1987 : BitVec 32 := Scalar.addi c0_i32_1547 v1986
  v1987.toNat
def k0_dev49 (d0 : Dev nD) : Nat :=
  let c0_i32_1587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1550 : BitVec 32 := 7#32
  let v1996 : BitVec 32 := Scalar.addi v2 c7_i32_1550
  let c8_i32_1551 : BitVec 32 := 8#32
  let c0_i32_1552 : BitVec 32 := 0#32
  let v1997 : BitVec 1 := Scalar.cmpi .eq c8_i32_1551 c0_i32_1552
  let c1_i32_1553 : BitVec 32 := 1#32
  let v1998 : BitVec 32 := Scalar.select v1997 c1_i32_1553 c8_i32_1551
  let v1999 : BitVec 32 := Scalar.remsi v1996 v1998
  let c0_i32_1555 : BitVec 32 := 0#32
  let v2001 : BitVec 1 := Scalar.cmpi .slt v1999 c0_i32_1555
  let c0_i32_1556 : BitVec 32 := 0#32
  let v2002 : BitVec 1 := Scalar.cmpi .slt v1998 c0_i32_1556
  let v2003 : BitVec 1 := Scalar.xori v2001 v2002
  let c0_i32_1554 : BitVec 32 := 0#32
  let v2000 : BitVec 1 := Scalar.cmpi .ne v1999 c0_i32_1554
  let v2004 : BitVec 1 := Scalar.andi v2003 v2000
  let v2005 : BitVec 32 := Scalar.addi v1999 v1998
  let v2006 : BitVec 32 := Scalar.select v2004 v2005 v1999
  let c1_i32_1586 : BitVec 32 := 1#32
  let v2036 : BitVec 32 := Scalar.muli v2006 c1_i32_1586
  let v2037 : BitVec 32 := Scalar.addi c0_i32_1587 v2036
  v2037.toNat
def k0_off23 (d0 : Dev nD) (c1_i32_1591 : BitVec 32) : Fin 2 → Nat :=
  let c2_i32_1602 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1590 : BitVec 32 := 8#32
  let v2046 : BitVec 32 := Scalar.addi v2 c8_i32_1590
  let v2047 : BitVec 32 := Scalar.subi v2046 c1_i32_1591
  let c8_i32_1592 : BitVec 32 := 8#32
  let c0_i32_1593 : BitVec 32 := 0#32
  let v2048 : BitVec 1 := Scalar.cmpi .eq c8_i32_1592 c0_i32_1593
  let c1_i32_1594 : BitVec 32 := 1#32
  let v2049 : BitVec 32 := Scalar.select v2048 c1_i32_1594 c8_i32_1592
  let v2050 : BitVec 32 := Scalar.remsi v2047 v2049
  let c0_i32_1596 : BitVec 32 := 0#32
  let v2052 : BitVec 1 := Scalar.cmpi .slt v2050 c0_i32_1596
  let c0_i32_1597 : BitVec 32 := 0#32
  let v2053 : BitVec 1 := Scalar.cmpi .slt v2049 c0_i32_1597
  let v2054 : BitVec 1 := Scalar.xori v2052 v2053
  let c0_i32_1595 : BitVec 32 := 0#32
  let v2051 : BitVec 1 := Scalar.cmpi .ne v2050 c0_i32_1595
  let v2055 : BitVec 1 := Scalar.andi v2054 v2051
  let v2056 : BitVec 32 := Scalar.addi v2050 v2049
  let v2057 : BitVec 32 := Scalar.select v2055 v2056 v2050
  ![2, v2057.toNat]
def k0_off24 (d0 : Dev nD) (c1_i32_1591 : BitVec 32) : Fin 3 → Nat :=
  let c2_i32_1601 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1590 : BitVec 32 := 8#32
  let v2046 : BitVec 32 := Scalar.addi v2 c8_i32_1590
  let v2047 : BitVec 32 := Scalar.subi v2046 c1_i32_1591
  let c8_i32_1592 : BitVec 32 := 8#32
  let c0_i32_1593 : BitVec 32 := 0#32
  let v2048 : BitVec 1 := Scalar.cmpi .eq c8_i32_1592 c0_i32_1593
  let c1_i32_1594 : BitVec 32 := 1#32
  let v2049 : BitVec 32 := Scalar.select v2048 c1_i32_1594 c8_i32_1592
  let v2050 : BitVec 32 := Scalar.remsi v2047 v2049
  let c0_i32_1596 : BitVec 32 := 0#32
  let v2052 : BitVec 1 := Scalar.cmpi .slt v2050 c0_i32_1596
  let c0_i32_1597 : BitVec 32 := 0#32
  let v2053 : BitVec 1 := Scalar.cmpi .slt v2049 c0_i32_1597
  let v2054 : BitVec 1 := Scalar.xori v2052 v2053
  let c0_i32_1595 : BitVec 32 := 0#32
  let v2051 : BitVec 1 := Scalar.cmpi .ne v2050 c0_i32_1595
  let v2055 : BitVec 1 := Scalar.andi v2054 v2051
  let v2056 : BitVec 32 := Scalar.addi v2050 v2049
  let v2057 : BitVec 32 := Scalar.select v2055 v2056 v2050
  let c64_i32_1599 : BitVec 32 := 64#32
  let v2059 : BitVec 32 := Scalar.muli v2057 c64_i32_1599
  let c0_i32_1606 : BitVec 32 := 0#32
  ![2, v2059.toNat, 0]
abbrev stage0_0 : Fin 1 → Memref sig .tc .vmem S64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x512 : Shape := ⟨2, ![512, 512]⟩
abbrev S512x8192 : Shape := ⟨2, ![512, 8192]⟩
abbrev S8192x512 : Shape := ⟨2, ![8192, 512]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S512x8192, .bf16⟩
  | .hbm, ⟨2, _⟩ => ⟨S512x8192, .bf16⟩
  | .hbm, ⟨3, _⟩ => ⟨S512x8192, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S512x8192, .f32⟩
  | .hbm, ⟨8, _⟩ => ⟨S512x8192, .bf16⟩
  | .hbm, ⟨9, _⟩ => ⟨S_, .bf16⟩
  | .hbm, ⟨10, _⟩ => ⟨S512x8192, .bf16⟩
  | .hbm, ⟨11, _⟩ => ⟨S512x8192, .bf16⟩
  | .hbm, ⟨12, _⟩ => ⟨S512x512, .f32⟩
  | .hbm, ⟨13, _⟩ => ⟨S512x512, .bf16⟩
  | .hbm, ⟨14, _⟩ => ⟨S512x8192, .f32⟩
  | .hbm, ⟨15, _⟩ => ⟨S512x8192, .bf16⟩
  | .hbm, ⟨16, _⟩ => ⟨S_, .bf16⟩
  | .hbm, ⟨17, _⟩ => ⟨S512x8192, .bf16⟩
  | .hbm, ⟨18, _⟩ => ⟨S512x8192, .bf16⟩
  | .hbm, ⟨19, _⟩ => ⟨S512x512, .f32⟩
  | .hbm, ⟨20, _⟩ => ⟨S512x512, .bf16⟩
  | .hbm, ⟨21, _⟩ => ⟨S512x8192, .f32⟩
  | .hbm, ⟨22, _⟩ => ⟨S512x8192, .bf16⟩
  | .hbm, ⟨23, _⟩ => ⟨S_, .bf16⟩
  | .hbm, ⟨24, _⟩ => ⟨S512x8192, .bf16⟩
  | .hbm, ⟨25, _⟩ => ⟨S512x8192, .bf16⟩
  | .hbm, ⟨26, _⟩ => ⟨S512x512, .f32⟩
  | .hbm, ⟨27, _⟩ => ⟨S512x512, .bf16⟩
  | .hbm, ⟨28, _⟩ => ⟨S512x512, .f32⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Prog.lean ====
module

public import proofs.«01_k».proof.Proof.Gen.KernelIdeal.Skeleton
public import proofs.«01_k».proof.Proof.Gen.KernelIdeal.Launch
public import proofs.«01_k».proof.Proof.Gen.KernelIdeal.Points

@[expose] public section

noncomputable section

/-!
The kernel's body written as loops. The printed body is three layers of the same exchange over seven
peers, unrolled. Here each layer and each step is one definition over the layer number and the step
number, and `body_eq` says that the printed body is this program.
-/

namespace Cert.KernelIdeal.Talk

open Idealize.ShloMosaic Idealize.SL.Sem Cert.KernelIdeal.Gen

variable {F : FTy → Type} [FloatOps F]

/-- The peer that device `c` addresses at step `r`: the device `r + 1` places after it. -/
def nb (c : Dev nD) (r : Fin 7) : Dev nD := ⟨(c.val + 1 + r.val) % 8, Nat.mod_lt _ (by decide)⟩

/-- Step `r` counted from the end. -/
def rv (r : Fin 7) : Fin 7 := ⟨6 - r.val, by omega⟩

/-- The printed targets of the barrier's signals. -/
def devS (r : Fin 7) (d : Dev nD) : Dev nD :=
  match r with
  | 0 => ⟨k0_dev1 d, k0_dev1_lt d⟩
  | 1 => ⟨k0_dev2 d, k0_dev2_lt d⟩
  | 2 => ⟨k0_dev3 d, k0_dev3_lt d⟩
  | 3 => ⟨k0_dev4 d, k0_dev4_lt d⟩
  | 4 => ⟨k0_dev5 d, k0_dev5_lt d⟩
  | 5 => ⟨k0_dev6 d, k0_dev6_lt d⟩
  | 6 => ⟨k0_dev7 d, k0_dev7_lt d⟩

/-- The printed target devices of the three layers' steps. -/
def devA (l : Fin 3) (r : Fin 7) (d : Dev nD) : Dev nD :=
  match l, r with
  | 0, 0 => ⟨k0_dev8 d, k0_dev8_lt d⟩
  | 0, 1 => ⟨k0_dev9 d, k0_dev9_lt d⟩
  | 0, 2 => ⟨k0_dev10 d, k0_dev10_lt d⟩
  | 0, 3 => ⟨k0_dev11 d, k0_dev11_lt d⟩
  | 0, 4 => ⟨k0_dev12 d, k0_dev12_lt d⟩
  | 0, 5 => ⟨k0_dev13 d, k0_dev13_lt d⟩
  | 0, 6 => ⟨k0_dev14 d, k0_dev14_lt d⟩
  | 1, 0 => ⟨k0_dev22 d, k0_dev22_lt d⟩
  | 1, 1 => ⟨k0_dev23 d, k0_dev23_lt d⟩
  | 1, 2 => ⟨k0_dev24 d, k0_dev24_lt d⟩
  | 1, 3 => ⟨k0_dev25 d, k0_dev25_lt d⟩
  | 1, 4 => ⟨k0_dev26 d, k0_dev26_lt d⟩
  | 1, 5 => ⟨k0_dev27 d, k0_dev27_lt d⟩
  | 1, 6 => ⟨k0_dev28 d, k0_dev28_lt d⟩
  | 2, 0 => ⟨k0_dev36 d, k0_dev36_lt d⟩
  | 2, 1 => ⟨k0_dev37 d, k0_dev37_lt d⟩
  | 2, 2 => ⟨k0_dev38 d, k0_dev38_lt d⟩
  | 2, 3 => ⟨k0_dev39 d, k0_dev39_lt d⟩
  | 2, 4 => ⟨k0_dev40 d, k0_dev40_lt d⟩
  | 2, 5 => ⟨k0_dev41 d, k0_dev41_lt d⟩
  | 2, 6 => ⟨k0_dev42 d, k0_dev42_lt d⟩

/-- The printed target devices of the three layers' steps. -/
def devR (l : Fin 3) (r : Fin 7) (d : Dev nD) : Dev nD :=
  match l, r with
  | 0, 0 => ⟨k0_dev15 d, k0_dev15_lt d⟩
  | 0, 1 => ⟨k0_dev16 d, k0_dev16_lt d⟩
  | 0, 2 => ⟨k0_dev17 d, k0_dev17_lt d⟩
  | 0, 3 => ⟨k0_dev18 d, k0_dev18_lt d⟩
  | 0, 4 => ⟨k0_dev19 d, k0_dev19_lt d⟩
  | 0, 5 => ⟨k0_dev20 d, k0_dev20_lt d⟩
  | 0, 6 => ⟨k0_dev21 d, k0_dev21_lt d⟩
  | 1, 0 => ⟨k0_dev29 d, k0_dev29_lt d⟩
  | 1, 1 => ⟨k0_dev30 d, k0_dev30_lt d⟩
  | 1, 2 => ⟨k0_dev31 d, k0_dev31_lt d⟩
  | 1, 3 => ⟨k0_dev32 d, k0_dev32_lt d⟩
  | 1, 4 => ⟨k0_dev33 d, k0_dev33_lt d⟩
  | 1, 5 => ⟨k0_dev34 d, k0_dev34_lt d⟩
  | 1, 6 => ⟨k0_dev35 d, k0_dev35_lt d⟩
  | 2, 0 => ⟨k0_dev43 d, k0_dev43_lt d⟩
  | 2, 1 => ⟨k0_dev44 d, k0_dev44_lt d⟩
  | 2, 2 => ⟨k0_dev45 d, k0_dev45_lt d⟩
  | 2, 3 => ⟨k0_dev46 d, k0_dev46_lt d⟩
  | 2, 4 => ⟨k0_dev47 d, k0_dev47_lt d⟩
  | 2, 5 => ⟨k0_dev48 d, k0_dev48_lt d⟩
  | 2, 6 => ⟨k0_dev49 d, k0_dev49_lt d⟩

/-- The printed offset functions of the three layers. -/
def selfA (l : Fin 3) (d : Dev nD) : Fin 3 → ℕ :=
  match l with
  | 0 => k0_off1 d
  | 1 => k0_off9 d
  | 2 => k0_off17 d

/-- The printed offset functions of the three layers. -/
def selfW (l : Fin 3) (d : Dev nD) : Fin 3 → ℕ :=
  match l with
  | 0 => k0_off4 d
  | 1 => k0_off12 d
  | 2 => k0_off20 d

/-- The printed offset functions of the three layers. -/
def semSelf (l : Fin 3) (d : Dev nD) : Fin 2 → ℕ :=
  match l with
  | 0 => k0_off3 d
  | 1 => k0_off11 d
  | 2 => k0_off19 d

/-- The printed offset functions of the three layers, at the step's word. -/
def semPeer (l : Fin 3) (r : Fin 7) (d : Dev nD) : Fin 2 → ℕ :=
  match l with
  | 0 => k0_off2 d (BitVec.ofNat 32 (1 + r.val))
  | 1 => k0_off10 d (BitVec.ofNat 32 (1 + r.val))
  | 2 => k0_off18 d (BitVec.ofNat 32 (1 + r.val))

/-- The printed offset functions of the three layers, at the step's word. -/
def peerW (l : Fin 3) (r : Fin 7) (d : Dev nD) : Fin 3 → ℕ :=
  match l with
  | 0 => k0_off5 d (BitVec.ofNat 32 (1 + r.val))
  | 1 => k0_off13 d (BitVec.ofNat 32 (1 + r.val))
  | 2 => k0_off21 d (BitVec.ofNat 32 (1 + r.val))

/-- The printed offset functions of the three layers, at the step's word. -/
def peerA (l : Fin 3) (r : Fin 7) (d : Dev nD) : Fin 3 → ℕ :=
  match l with
  | 0 => k0_off6 d (BitVec.ofNat 32 (1 + r.val))
  | 1 => k0_off14 d (BitVec.ofNat 32 (1 + r.val))
  | 2 => k0_off22 d (BitVec.ofNat 32 (1 + r.val))

/-- The printed offset functions of the three layers, at the step's word. -/
def semSrc (l : Fin 3) (r : Fin 7) (d : Dev nD) : Fin 2 → ℕ :=
  match l with
  | 0 => k0_off7 d (BitVec.ofNat 32 (1 + r.val))
  | 1 => k0_off15 d (BitVec.ofNat 32 (1 + r.val))
  | 2 => k0_off23 d (BitVec.ofNat 32 (1 + r.val))

/-- The printed offset functions of the three layers, at the step's word. -/
def srcW (l : Fin 3) (r : Fin 7) (d : Dev nD) : Fin 3 → ℕ :=
  match l with
  | 0 => k0_off8 d (BitVec.ofNat 32 (1 + r.val))
  | 1 => k0_off16 d (BitVec.ofNat 32 (1 + r.val))
  | 2 => k0_off24 d (BitVec.ofNat 32 (1 + r.val))

/-! ### The offsets, named by layer and block -/

/-- Where block `p` of layer `l` begins in a buffer of three layers of eight blocks. -/
def blk (l : Fin 3) (p : Dev nD) : Fin 3 → ℕ := ![l.val, 64 * p.val, 0]

/-- Where semaphore `p` of layer `l` stands. -/
def cel (l : Fin 3) (p : Dev nD) : Fin 2 → ℕ := ![l.val, p.val]

theorem devS_eq : ∀ (r : Fin 7) (d : Dev nD), devS r d = nb d r := by decide +kernel
theorem devA_eq : ∀ (l : Fin 3) (r : Fin 7) (d : Dev nD), devA l r d = nb d r := by decide +kernel
theorem devR_eq : ∀ (l : Fin 3) (r : Fin 7) (d : Dev nD), devR l r d = nb d r := by decide +kernel
theorem selfA_eq : ∀ (l : Fin 3) (d : Dev nD), selfA l d = blk l d := by decide +kernel
theorem selfW_eq : ∀ (l : Fin 3) (d : Dev nD), selfW l d = blk l d := by decide +kernel
theorem semSelf_eq : ∀ (l : Fin 3) (d : Dev nD), semSelf l d = cel l d := by decide +kernel
theorem semPeer_eq : ∀ (l : Fin 3) (r : Fin 7) (d : Dev nD), semPeer l r d = cel l (nb d r) := by decide +kernel
theorem peerW_eq : ∀ (l : Fin 3) (r : Fin 7) (d : Dev nD), peerW l r d = blk l (nb d r) := by decide +kernel
theorem peerA_eq : ∀ (l : Fin 3) (r : Fin 7) (d : Dev nD), peerA l r d = blk l (nb d r) := by decide +kernel
theorem semSrc_eq : ∀ (l : Fin 3) (r : Fin 7) (d : Dev nD), semSrc l r d = cel l (nb d (rv r)) := by decide +kernel
theorem srcW_eq : ∀ (l : Fin 3) (r : Fin 7) (d : Dev nD), srcW l r d = blk l (nb d (rv r)) := by decide +kernel

/-- A block lies in its buffer. -/
abbrev InB (o : Fin 3 → ℕ) : Prop := ∀ a, o a + S1x64x512.size a ≤ S3x512x512.size a

/-- A semaphore lies in its array. -/
abbrev InS (o : Fin 2 → ℕ) : Prop := ∀ a, o a + S1x1.size a ≤ S3x8.size a

theorem blk_in : ∀ (l : Fin 3) (p : Dev nD), InB (blk l p) := by decide +kernel
theorem cel_in : ∀ (l : Fin 3) (p : Dev nD), InS (cel l p) := by decide +kernel
theorem blk_words : ∀ (l : Fin 3) (p : Dev nD),
    (Rect.unit (s := S3x512x512) (blk l p) S1x64x512.size (blk_in l p)).WholeWords (EltTy.packing .bf16) := by decide +kernel
theorem blk_packed : ∀ (l : Fin 3) (p : Dev nD),
    (Rect.unit (s := S3x512x512) (blk l p) S1x64x512.size (blk_in l p)).PackedRows (EltTy.packing .bf16) := by decide +kernel

/-- An offset that is a block's, with the block it is. -/
structure At (o : Fin 3 → ℕ) (l : Fin 3) (p : Dev nD) : Prop where
  eq : o = blk l p

theorem At.inb {o : Fin 3 → ℕ} {l : Fin 3} {p : Dev nD} (h : At o l p) : InB o := by
  rw [h.eq]; exact blk_in l p

theorem At.words {o : Fin 3 → ℕ} {l : Fin 3} {p : Dev nD} (h : At o l p) :
    (Rect.unit (s := S3x512x512) o S1x64x512.size h.inb).WholeWords (EltTy.packing .bf16) := by
  obtain ⟨rfl⟩ := h; exact blk_words l p

theorem At.packed {o : Fin 3 → ℕ} {l : Fin 3} {p : Dev nD} (h : At o l p) :
    (Rect.unit (s := S3x512x512) o S1x64x512.size h.inb).PackedRows (EltTy.packing .bf16) := by
  obtain ⟨rfl⟩ := h; exact blk_packed l p

theorem inS_of {o : Fin 2 → ℕ} {l : Fin 3} {p : Dev nD} (h : o = cel l p) : InS o := by
  rw [h]; exact cel_in l p

/-! ### The operations -/

/-- The three shared buffers: the gathered activations, the partial products, the received partial products. -/
abbrev gM : Memref sig .tc .vmem S3x512x512 .bf16 := Memref.whole cc0_scratch0
abbrev pM : Memref sig .tc .vmem S3x512x512 .bf16 := Memref.whole cc0_scratch1
abbrev rM : Memref sig .tc .vmem S3x512x512 .bf16 := Memref.whole cc0_scratch2
/-- The weights a layer works with. -/
abbrev wiM : Memref sig .tc .vmem S512x1024 .bf16 := Memref.whole cc0_scratch3
abbrev woM : Memref sig .tc .vmem S1024x512 .bf16 := Memref.whole cc0_scratch4
/-- The staged input block and the staged output block. -/
abbrev xM : Memref sig .tc .vmem S64x512 .bf16 := Memref.whole cc0_stg0_0
abbrev oM : Memref sig .tc .vmem S64x512 .f32 := Memref.whole cc0_stg7_0

/-- The staged weights of layer `l`. -/
def winM (l : Fin 3) : Memref sig .tc .vmem S512x1024 .bf16 :=
  match l with
  | 0 => Memref.whole cc0_stg1_0
  | 1 => Memref.whole cc0_stg3_0
  | 2 => Memref.whole cc0_stg5_0
def woutM (l : Fin 3) : Memref sig .tc .vmem S1024x512 .bf16 :=
  match l with
  | 0 => Memref.whole cc0_stg2_0
  | 1 => Memref.whole cc0_stg4_0
  | 2 => Memref.whole cc0_stg6_0

/-- One block of a shared buffer, as a matrix: what a transfer reads or writes. -/
abbrev win (M : Memref sig .tc .vmem S3x512x512 .bf16) (o : Fin 3 → ℕ) (h : InB o) : Memref sig .tc .vmem S64x512 .bf16 :=
  (M.slice (Rect.unit (s := S3x512x512) o S1x64x512.size h) (fun _ => rfl)).squeeze S64x512 squeezes_S1x64x512_S64x512

/-- One semaphore of an array. -/
abbrev sem1 (A : DmaSems sig S3x8) (o : Fin 2 → ℕ) (h : InS o) : DmaSem sig :=
  ((A.slice (Rect.unit (s := S3x8) o S1x1.size h)).squeeze S_ squeezes_S1x1_S_).sem

variable (F) in
/-- A program of this kernel. -/
abbrev PR := Prog (TpuEff nD τ sig (Elt F) Λ₀ .tc) PUnit

/-- The block of a shared buffer read by a load. -/
abbrev ldB (M : Memref sig .tc .vmem S3x512x512 .bf16) (o : Fin 3 → ℕ) (h : InB o) (K : Vec F S1x64x512 .bf16 → PR F) : PR F :=
  .op (.load M (Rect.unit (s := S3x512x512) o S1x64x512.size h).toLoadRect (View.loadsAt_vmem h_S1x64x512)) K

/-- A block of a shared buffer stored. -/
abbrev stB (M : Memref sig .tc .vmem S3x512x512 .bf16) (hM : M.IsWhole) (o : Fin 3 → ℕ) {l : Fin 3} {p : Dev nD} (h : At o l p)
    (v : FVec F S1x64x512 .bf16) (K : PR F) : PR F :=
  .op (.store M (Rect.unit (s := S3x512x512) o S1x64x512.size h.inb) v Finset.univ
    (View.stores_vmem h_S1x64x512 (hM.storeExact_slice rfl _ h.packed) (fun _ => rfl)) (.inl rfl)) fun _ => K

/-- The first weight matrix of a layer, read whole. -/
abbrev ldI (M : Memref sig .tc .vmem S512x1024 .bf16) (K : Vec F S512x1024 .bf16 → PR F) : PR F :=
  .op (.load M (Rect.unit (s := S512x1024) ![0, 0] S512x1024.size inb_S512x1024_S512x1024_0_0).toLoadRect (View.loadsAt_vmem h_S512x1024)) K

/-- The second weight matrix of a layer, read whole. -/
abbrev ldO (M : Memref sig .tc .vmem S1024x512 .bf16) (K : Vec F S1024x512 .bf16 → PR F) : PR F :=
  .op (.load M (Rect.unit (s := S1024x512) ![0, 0] S1024x512.size inb_S1024x512_S1024x512_0_0).toLoadRect (View.loadsAt_vmem h_S1024x512)) K

/-- A block of one device sent to a block of another device's buffer. -/
abbrev sendB (M M' : Memref sig .tc .vmem S3x512x512 .bf16) (hM : M.IsWhole) (hM' : M'.IsWhole) (A A' : DmaSems sig S3x8)
    (o o' : Fin 3 → ℕ) {l l' : Fin 3} {p p' : Dev nD} (h : At o l p) (h' : At o' l' p')
    (s s' : Fin 2 → ℕ) (hs : InS s) (hs' : InS s') (t : Dev nD) (K : PR F) : PR F :=
  .op (.enqueueDma (win M o h.inb) (.remote (Dev.tc t) (win M' o' h'.inb) (.dma (sem1 A s hs))) (.dma (sem1 A' s' hs'))
    ((hM.wordExact_slice rfl _ h.words).reshape _ _) ((hM'.wordExact_slice rfl _ h'.words).reshape _ _) ⟨⟨rfl, Or.inl rfl⟩, trivial⟩) fun _ => K

/-- The wait for a block's transfer. -/
abbrev waitB (A : DmaSems sig S3x8) (s : Fin 2 → ℕ) (hs : InS s) (M M' : Memref sig .tc .vmem S3x512x512 .bf16)
    (hM : M.IsWhole) (hM' : M'.IsWhole) (o o' : Fin 3 → ℕ) {l l' : Fin 3} {p p' : Dev nD} (h : At o l p) (h' : At o' l' p')
    (K : PR F) : PR F :=
  .op (.waitDma2 (sem1 A s hs) (win M o h.inb) (win M' o' h'.inb)
    ((hM.wordExact_slice rfl _ h.words).reshape _ _) ((hM'.wordExact_slice rfl _ h'.words).reshape _ _)) fun _ => K

theorem gW : gM.IsWhole := Memref.isWhole_whole _
theorem pW : pM.IsWhole := Memref.isWhole_whole _
theorem rW : rM.IsWhole := Memref.isWhole_whole _

theorem aSelfA (l : Fin 3) (d : Dev nD) : At (selfA l d) l d := ⟨selfA_eq l d⟩
theorem aSelfW (l : Fin 3) (d : Dev nD) : At (selfW l d) l d := ⟨selfW_eq l d⟩
theorem aPeerW (l : Fin 3) (r : Fin 7) (d : Dev nD) : At (peerW l r d) l (nb d r) := ⟨peerW_eq l r d⟩
theorem aPeerA (l : Fin 3) (r : Fin 7) (d : Dev nD) : At (peerA l r d) l (nb d r) := ⟨peerA_eq l r d⟩
theorem aSrcW (l : Fin 3) (r : Fin 7) (d : Dev nD) : At (srcW l r d) l (nb d (rv r)) := ⟨srcW_eq l r d⟩

/-! ### The program -/

/-- A step for each peer, in order. -/
def each (f : Fin 7 → PR F → PR F) (K : PR F) : PR F :=
  f 0 (f 1 (f 2 (f 3 (f 4 (f 5 (f 6 K))))))

/-- The barrier signal to a peer. -/
def pSignal (d : Dev nD) (r : Fin 7) (K : PR F) : PR F :=
  .op (.semSignal ((devS r d).tc) (SemArray.scalar (sig.barrier 0 rfl) : Sems sig S_).sem (1#32).toInt) fun _ => K

/-- The wait for the seven peers' signals. -/
def pBarrier (K : PR F) : PR F :=
  .op (.semWait (SemArray.scalar (sig.barrier 0 rfl) : Sems sig S_).sem (7#32).toInt) fun _ => K

/-- The own block sent to a peer's gathering buffer. -/
def pGather (l : Fin 3) (d : Dev nD) (r : Fin 7) (K : PR F) : PR F :=
  sendB gM gM gW gW cc0_scratch5 cc0_scratch6 (selfW l d) (selfW l d) (aSelfW l d) (aSelfW l d)
    (semPeer l r d) (semSelf l d) (inS_of (semPeer_eq l r d)) (inS_of (semSelf_eq l d)) (devA l r d) K

/-- The weights of a layer brought in. -/
def pWeights (l : Fin 3) (K : PR F) : PR F :=
  ldI (winM l) fun v => ldI wiM fun _ =>
  .op (.store wiM (Rect.unit (s := S512x1024) ![0, 0] S512x1024.size inb_S512x1024_S512x1024_0_0) (k0_pay2 v) Finset.univ
    (View.stores_vmem h_S512x1024 ((Memref.isWhole_whole cc0_scratch3).storeExact_slice rfl _ packedbf16_S512x1024_S512x1024_0_0) (fun _ => rfl)) (.inl rfl)) fun _ =>
  ldO (woutM l) fun w => ldO woM fun _ =>
  .op (.store woM (Rect.unit (s := S1024x512) ![0, 0] S1024x512.size inb_S1024x512_S1024x512_0_0) (k0_pay3 w) Finset.univ
    (View.stores_vmem h_S1024x512 ((Memref.isWhole_whole cc0_scratch4).storeExact_slice rfl _ packedbf16_S1024x512_S1024x512_0_0) (fun _ => rfl)) (.inl rfl)) fun _ => K

/-- The own block's partial product. -/
def pOwn (l : Fin 3) (d : Dev nD) (K : PR F) : PR F :=
  ldB gM (selfA l d) (aSelfA l d).inb fun v => ldI wiM fun wi => ldO woM fun wo =>
  ldB rM (selfA l d) (aSelfA l d).inb fun _ =>
  stB rM rW (selfA l d) (aSelfA l d) (k0_pay4 v wi wo) K

/-- A peer's block awaited, its partial product computed and sent back. -/
def pStep (l : Fin 3) (d : Dev nD) (r : Fin 7) (K : PR F) : PR F :=
  waitB cc0_scratch6 (semPeer l r d) (inS_of (semPeer_eq l r d)) gM gM gW gW (peerW l r d) (peerW l r d) (aPeerW l r d) (aPeerW l r d) <|
  ldB gM (peerA l r d) (aPeerA l r d).inb fun v => ldI wiM fun wi => ldO woM fun wo =>
  ldB pM (peerA l r d) (aPeerA l r d).inb fun _ =>
  stB pM pW (peerA l r d) (aPeerA l r d) (k0_pay4 v wi wo) <|
  sendB pM rM pW rW cc0_scratch7 cc0_scratch8 (peerW l r d) (selfW l d) (aPeerW l r d) (aSelfW l d)
    (semPeer l r d) (semSelf l d) (inS_of (semPeer_eq l r d)) (inS_of (semSelf_eq l d)) (devR l r d) K

/-- A peer's partial product awaited. -/
def pRecv (l : Fin 3) (d : Dev nD) (r : Fin 7) (K : PR F) : PR F :=
  waitB cc0_scratch8 (semSrc l r d) (inS_of (semSrc_eq l r d)) rM rM rW rW (srcW l r d) (srcW l r d) (aSrcW l r d) (aSrcW l r d) K

theorem slab_in (l : Fin 3) : ∀ a, (![l.val, 0, 0] : Fin 3 → ℕ) a + S1x512x512.size a ≤ S3x512x512.size a := by
  revert l; decide

/-- The layer's received blocks, all eight. -/
def ldSlab (l : Fin 3) (K : Vec F S1x512x512 .bf16 → PR F) : PR F :=
  .op (.load rM (Rect.unit (s := S3x512x512) ![l.val, 0, 0] S1x512x512.size (slab_in l)).toLoadRect (View.loadsAt_vmem h_S1x512x512)) K

/-- A layer up to the reading of the summands. -/
def pLayer (l : Fin 3) (d : Dev nD) (K : Vec F S1x512x512 .bf16 → PR F) : PR F :=
  each (pGather l d) <| pWeights l <| pOwn l d <| each (pStep l d) <| each (pRecv l d) <| ldSlab l K

/-- The sum stored as the next layer's own block. -/
def pNext (l : Fin 3) (d : Dev nD) (v : Vec F S1x512x512 .bf16) (K : PR F) : PR F :=
  ldB gM (selfA l d) (aSelfA l d).inb fun _ => stB gM gW (selfA l d) (aSelfA l d) (k0_pay16 v) K

/-- The wait for the own block's transfer to a peer. -/
def pGathered (l : Fin 3) (d : Dev nD) (r : Fin 7) (K : PR F) : PR F :=
  waitB cc0_scratch5 (semPeer l r d) (inS_of (semPeer_eq l r d)) gM gM gW gW (selfW l d) (selfW l d) (aSelfW l d) (aSelfW l d) K

/-- The wait for a partial product's transfer to a peer. -/
def pSent (l : Fin 3) (d : Dev nD) (r : Fin 7) (K : PR F) : PR F :=
  waitB cc0_scratch7 (semPeer l r d) (inS_of (semPeer_eq l r d)) rM pM rW pW (selfW l d) (peerW l r d) (aSelfW l d) (aPeerW l r d) K

/-- The first own block: the staged input. -/
def pFirst (d : Dev nD) (K : PR F) : PR F :=
  .op (.load xM (Rect.unit (s := S64x512) ![0, 0] S64x512.size inb_S64x512_S64x512_0_0).toLoadRect (View.loadsAt_vmem h_S64x512)) fun v =>
  ldB gM (selfA 0 d) (aSelfA 0 d).inb fun _ => stB gM gW (selfA 0 d) (aSelfA 0 d) (k0_pay1 v) K

/-- The last sum stored to the staged output. -/
def pLast (v : Vec F S1x512x512 .bf16) (K : PR F) : PR F :=
  .op (.load oM (Rect.unit (s := S64x512) ![0, 0] S64x512.size inb_S64x512_S64x512_0_0).toLoadRect (View.loadsAt_vmem h_S64x512)) fun _ =>
  .op (.store oM (Rect.unit (s := S64x512) ![0, 0] S64x512.size inb_S64x512_S64x512_0_0) (k0_pay45 v) Finset.univ (View.stores_vmem_bits_univ h_S64x512 rfl) (.inl rfl)) fun _ => K

/-- The waits for a layer's own transfers. -/
def pDrain (l : Fin 3) (d : Dev nD) (K : PR F) : PR F :=
  each (pGathered l d) <| each (pSent l d) K

/-- What a device runs. -/
def pMain (d : Dev nD) : PR F :=
  each (pSignal d) <| pBarrier <| pFirst d <|
  pLayer 0 d fun v => pNext 1 d v <|
  pLayer 1 d fun v => pNext 2 d v <|
  pLayer 2 d fun v => pLast v <|
  pDrain 0 d <| pDrain 1 d <| pDrain 2 d <| .ret ⟨⟩

/-- The program with the device read first. -/
def pAll : PR F := .op .deviceId fun d => pMain d

set_option maxRecDepth 1000000 in
/-- The printed body is the program. -/
theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) cc0_scratch5 cc0_scratch6 cc0_scratch7 cc0_scratch8
      = pAll (F := F) := by
  chain_rfl

end Cert.KernelIdeal.Talk
-- ==== Proof.Data.lean ====
module

public import proofs.«01_k».proof.Proof.Prog
public import Idealize.ShloMosaic.Lib.Pipeline.Launch
public import Idealize.ShloMosaic.Lib.Pipeline.Kit
public import Idealize.ShloMosaic.Lib.Ring
public import Idealize.ShloMosaic.Lib.ValueIdxCore
public import Idealize.ShloMosaic.Lib.Transfers
public import Idealize.ShloMosaic.Lib.Tactic

@[expose] public section

noncomputable section

/-!
A block of a shared buffer as a resource: the block held at known contents (`held`) or at any contents
(`loose`), how a whole buffer is the blocks of its three layers and eight devices, and the loads and
stores of a block.
-/

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
open Cert.KernelIdeal.Gen

variable {F : FTy → Type} [FloatOps F]

/-- The ghost state: the pipeline's, and that of the exchange, whose duties are named by devices. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The proposition that device `c` may run `P` and end in `Q`. -/
abbrev WP (c : Dev nD) (P : PR F) (Q : PUnit → sProp 𝕄) : sProp 𝕄 :=
  wp frame (wpE (defs₀ (F := F)) 𝒱₀ (c : Thread nD τ) none) Set.univ P Q

/-! ### Blocks -/

/-- The rectangle of block `p` of layer `l`. -/
abbrev rect (l : Fin 3) (p : Dev nD) : Rect S3x512x512 := Rect.unit (s := S3x512x512) (blk l p) S1x64x512.size (blk_in l p)

/-- The block as a part of its buffer. -/
abbrev blkM (M : Memref sig .tc .vmem S3x512x512 .bf16) (l : Fin 3) (p : Dev nD) := M.slice (rect l p) (fun _ => rfl)

theorem mem_rect {l : Fin 3} {p : Dev nD} {i : S3x512x512.Idx} :
    i ∈ (rect l p).set ↔ (i 0).val = l.val ∧ (i 1).val / 64 = p.val := by
  rw [Rect.mem_set_unit]
  have h2 : (i 2).val < 512 := (i 2).isLt
  constructor
  · intro h
    have h0 := h 0
    have h1 := h 1
    simp only [blk, Matrix.cons_val_zero, Matrix.cons_val_one] at h0 h1
    have e0 : S1x64x512.size 0 = 1 := rfl
    have e1 : S1x64x512.size 1 = 64 := rfl
    omega
  · rintro ⟨h0, h1⟩ a
    fin_cases a
    · show l.val ≤ (i 0).val ∧ (i 0).val < l.val + 1
      omega
    · show 64 * p.val ≤ (i 1).val ∧ (i 1).val < 64 * p.val + 64
      omega
    · show 0 ≤ (i 2).val ∧ (i 2).val < 0 + 512
      omega

theorem rect_disjoint {b b' : Fin 3 × Dev nD} (h : b ≠ b') : Disjoint (rect b.1 b.2).set (rect b'.1 b'.2).set := by
  rw [Finset.disjoint_left]
  intro i hi hi'
  have h1 := mem_rect.mp hi
  have h2 := mem_rect.mp hi'
  exact h (Prod.ext (Fin.ext (h1.1.symm.trans h2.1)) (Fin.ext (h1.2.symm.trans h2.2)))

theorem rect_cover : (Finset.univ : Finset (Fin 3 × Dev nD)).biUnion (fun b => (rect b.1 b.2).set) = Finset.univ := by
  refine Finset.eq_univ_iff_forall.mpr fun i => Finset.mem_biUnion.mpr ?_
  have h1 : (i 1).val < 512 := (i 1).isLt
  exact ⟨(⟨(i 0).val, (i 0).isLt⟩, ⟨(i 1).val / 64, by show _ < 8; omega⟩), Finset.mem_univ _, mem_rect.mpr ⟨rfl, rfl⟩⟩

/-- The places of a buffer that its block `b` takes. -/
abbrev places (M : Memref sig .tc .vmem S3x512x512 .bf16) (b : Fin 3 × Dev nD) : Finset M.view.ty.Idx := (blkM M b.1 b.2).view.set

theorem places_eq (M : Memref sig .tc .vmem S3x512x512 .bf16) (b : Fin 3 × Dev nD) : places M b = (rect b.1 b.2).set.map M.view.emb :=
  View.set_slice _ _

theorem places_disjoint (M : Memref sig .tc .vmem S3x512x512 .bf16) (b b' : Fin 3 × Dev nD) (h : b ≠ b') : Disjoint (places M b) (places M b') := by
  rw [places_eq, places_eq, Finset.disjoint_map]
  exact rect_disjoint h

theorem places_cover (M : Memref sig .tc .vmem S3x512x512 .bf16) (hM : M.view.set = Finset.univ) :
    (Finset.univ : Finset (Fin 3 × Dev nD)).biUnion (places M) = Finset.univ := by
  refine Finset.eq_univ_iff_forall.mpr fun i => ?_
  have hi : i ∈ M.view.set := by rw [hM]; exact Finset.mem_univ _
  obtain ⟨x, -, rfl⟩ := Finset.mem_map.mp hi
  have hx : x ∈ (Finset.univ : Finset (Fin 3 × Dev nD)).biUnion (fun b => (rect b.1 b.2).set) := by rw [rect_cover]; exact Finset.mem_univ _
  obtain ⟨b, hb, hxb⟩ := Finset.mem_biUnion.mp hx
  exact Finset.mem_biUnion.mpr ⟨b, hb, by rw [places_eq]; exact Finset.mem_map_of_mem _ hxb⟩

/-- A block of a buffer of device `c`, held with share `q` at contents `X`. -/
def held (M : Memref sig .tc .vmem S3x512x512 .bf16) (c : Dev nD) (l : Fin 3) (p : Dev nD) (q : PosShare TreeShare)
    (X : Vec F S1x64x512 .bf16) : sProp 𝕄 :=
  iprop(∃ f : Buf (Elt F) (M.view.loc (c : Thread nD τ)), ⌜(blkM M l p).view.read (Elt F) f = X⌝
    ∗ (M.view.loc (c : Thread nD τ) ↦[places M (l, p)]{q} f))

/-- A block of a buffer of device `c`, held whole at some contents. -/
def loose (M : Memref sig .tc .vmem S3x512x512 .bf16) (c : Dev nD) (l : Fin 3) (p : Dev nD) : sProp 𝕄 :=
  iprop(∃ f : Buf (Elt F) (M.view.loc (c : Thread nD τ)), (M.view.loc (c : Thread nD τ) ↦[places M (l, p)]{fullShare} f))

omit [FloatOps F] in
instance held_storable (M : Memref sig .tc .vmem S3x512x512 .bf16) (c : Dev nD) (l : Fin 3) (p : Dev nD) (q : PosShare TreeShare) (X) :
    BI.Storable (upEmb : UEmb _ 𝕄) (held (F := F) M c l p q X) := by unfold held; infer_instance
omit [FloatOps F] in
instance loose_storable (M : Memref sig .tc .vmem S3x512x512 .bf16) (c : Dev nD) (l : Fin 3) (p : Dev nD) :
    BI.Storable (upEmb : UEmb _ 𝕄) (loose (F := F) M c l p) := by unfold loose; infer_instance

omit [FloatOps F] in
theorem held_loose (M : Memref sig .tc .vmem S3x512x512 .bf16) (c : Dev nD) (l : Fin 3) (p : Dev nD) (X : Vec F S1x64x512 .bf16) :
    (held M c l p fullShare X : sProp 𝕄) ⊢ loose M c l p := by
  unfold held loose
  iintro ⟨%f, -, H⟩
  iexists f; iexact H

omit [FloatOps F] in
/-- A held block at any one buffer that reads the same there. -/
theorem held_at (M : Memref sig .tc .vmem S3x512x512 .bf16) (c : Dev nD) (l : Fin 3) (p : Dev nD) (q : PosShare TreeShare)
    (X : Vec F S1x64x512 .bf16) (g : Buf (Elt F) (M.view.loc (c : Thread nD τ))) (hg : (blkM M l p).view.read (Elt F) g = X) :
    (held M c l p q X : sProp 𝕄) = (M.view.loc (c : Thread nD τ) ↦[places M (l, p)]{q} g) := by
  have key : ∀ f : Buf (Elt F) (M.view.loc (c : Thread nD τ)), (blkM M l p).view.read (Elt F) f = X →
      (M.view.loc (c : Thread nD τ) ↦[places M (l, p)]{q} f : sProp 𝕄) = (M.view.loc (c : Thread nD τ) ↦[places M (l, p)]{q} g) := by
    intro f hf
    refine pointsTo_congr fun i hi => ?_
    obtain ⟨x, -, rfl⟩ := Finset.mem_map.mp hi
    have := congrFun (hf.trans hg.symm) x
    rw [View.read_apply, View.read_apply] at this
    exact (cast_inj _).mp this
  have h1 : (held M c l p q X : sProp 𝕄) ⊢ (M.view.loc (c : Thread nD τ) ↦[places M (l, p)]{q} g) := by
    unfold held
    iintro ⟨%f, %hf, H⟩
    rw [← key f hf]
    iexact H
  have h2 : (M.view.loc (c : Thread nD τ) ↦[places M (l, p)]{q} g) ⊢ (held M c l p q X : sProp 𝕄) := by
    unfold held
    iintro H
    iexists g
    isplitr; · ipureintro; exact hg
    iexact H
  exact BI.Entails.antisymm h1 h2

omit [FloatOps F] in
/-- A whole buffer is its blocks, at some contents; -/
theorem split_loose (M : Memref sig .tc .vmem S3x512x512 .bf16) (hM : M.view.set = Finset.univ) (c : Dev nD)
    (f : Buf (Elt F) (M.view.loc (c : Thread nD τ))) :
    (M.view.loc (c : Thread nD τ) ↦{fullShare} f) ⊢ (bigSep Finset.univ fun b : Fin 3 × Dev nD => loose M c b.1 b.2 : sProp 𝕄) := by
  have h1 : (M.view.loc (c : Thread nD τ) ↦{fullShare} f : sProp 𝕄) = bigSep Finset.univ fun b => (M.view.loc (c : Thread nD τ)) ↦[places M b]{fullShare} f :=
    Ring.pointsTo_blocks (ℓ := M.view.loc (c : Thread nD τ)) (fun b => places M b) (places_disjoint M) (places_cover M hM) f
  have h2 : ∀ b : Fin 3 × Dev nD, (M.view.loc (c : Thread nD τ) ↦[places M b]{fullShare} f) ⊢ (loose M c b.1 b.2 : sProp 𝕄) := by
    intro b; unfold loose; iintro H; iexists f; iexact H
  exact (Entails.of_eq h1).trans (bigSep_mono fun b _ => h2 b)

omit [FloatOps F] in
/-- and the blocks are the whole buffer. -/
theorem join_loose (M : Memref sig .tc .vmem S3x512x512 .bf16) (hM : M.view.set = Finset.univ) (c : Dev nD)
    (f₀ : Buf (Elt F) (M.view.loc (c : Thread nD τ))) :
    (bigSep Finset.univ fun b : Fin 3 × Dev nD => loose M c b.1 b.2 : sProp 𝕄)
      ⊢ iprop(∃ f : Buf (Elt F) (M.view.loc (c : Thread nD τ)), M.view.loc (c : Thread nD τ) ↦{fullShare} f) := by
  unfold loose
  exact Ring.pointsTo_blocks_join_exists (ℓ := M.view.loc (c : Thread nD τ)) (fun b => places M b) (places_disjoint M) (places_cover M hM) f₀

/-! ### Loads and stores of a block -/

section Rules
variable (c : Dev nD) (M : Memref sig .tc .vmem S3x512x512 .bf16) {o : Fin 3 → ℕ} {l : Fin 3} {p : Dev nD}

/-- A held block is read at its contents. -/
theorem wp_ldB (h : At o l p) (q : PosShare TreeShare) (X : Vec F S1x64x512 .bf16) (K : Vec F S1x64x512 .bf16 → PR F) (Q : PUnit → sProp 𝕄) :
    (held M c l p q X : sProp 𝕄) ⊢ iprop((held M c l p q X -∗ WP c (K X) Q) -∗ WP c (ldB M o h.inb K) Q) := by
  obtain ⟨rfl⟩ := h
  unfold held
  iintro ⟨%f, %hf, H⟩ HK
  iapply (wp_load 𝒱₀ (c : Thread nD τ) none Set.univ (m := M) (S := places M (l, p)) (Finset.Subset.refl _ |>.trans (by rw [places_eq]; exact Finset.Subset.refl _))) $$ H
  iintro H
  rw [View.readAt_rect, show (M.view.slice (rect l p)).read (Elt F) f = X from hf]
  iapply HK
  iexists f
  isplitr; · ipureintro; exact hf
  iexact H

/-- A block held at some contents may be read, the value unknown. -/
theorem wp_ldB_loose (h : At o l p) (P : PR F) (Q : PUnit → sProp 𝕄) :
    (loose M c l p : sProp 𝕄) ⊢ iprop((loose M c l p -∗ WP c P Q) -∗ WP c (ldB M o h.inb fun _ => P) Q) := by
  obtain ⟨rfl⟩ := h
  unfold loose
  iintro ⟨%f, H⟩ HK
  iapply (wp_load 𝒱₀ (c : Thread nD τ) none Set.univ (m := M) (S := places M (l, p)) (by rw [places_eq]; exact Finset.Subset.refl _)) $$ H
  iintro H
  iapply HK
  iexists f
  iexact H

/-- A block held whole may be stored to. -/
theorem wp_stB (hM : M.IsWhole) (h : At o l p) (v : FVec F S1x64x512 .bf16) (P : PR F) (Q : PUnit → sProp 𝕄) :
    (loose M c l p : sProp 𝕄) ⊢ iprop((held M c l p fullShare v -∗ WP c P Q) -∗ WP c (stB M hM o h v P) Q) := by
  obtain ⟨rfl⟩ := h
  unfold loose held
  iintro ⟨%f, H⟩ HK
  iapply (wp_store 𝒱₀ (c : Thread nD τ) none Set.univ (m := M) (r := rect l p) (Mk := Finset.univ) (S := places M (l, p)) (Finset.Subset.refl _)) $$ H
  iintro H
  iapply HK
  iexists _
  isplitr; swap; · iexact H
  ipureintro
  exact View.read_write_univ _ _

/-- A whole buffer held at known contents is read at them. -/
theorem wp_ldW {s : Shape} {e : EltTy} (M : Memref sig .tc .vmem s e) (q : PosShare TreeShare) (X : Vec F s e)
    {off : Fin s.rank → ℕ} (h0 : off = fun _ => 0) (inb : ∀ a, off a + s.size a ≤ s.size a)
    (hl : M.view.LoadsAt (Rect.unit (s := s) off s.size inb).toLoadRect) (K : Vec F s e → PR F) (Q : PUnit → sProp 𝕄) :
    (owns (c : Thread nD τ) M q X : sProp 𝕄) ⊢ iprop((owns (c : Thread nD τ) M q X -∗ WP c (K X) Q)
      -∗ WP c (.op (.load M (Rect.unit (s := s) off s.size inb).toLoadRect hl) K) Q) := by
  subst h0
  unfold owns
  iintro ⟨%f, %hf, H⟩ HK
  iapply (wp_load 𝒱₀ (c : Thread nD τ) none Set.univ (m := M) (S := M.view.set) (View.setOn_subset_set _ _)) $$ H
  iintro H
  have hr : M.view.readAt (Elt F) (Rect.unit (s := s) (fun _ => 0) s.size inb).toLoadRect f = X := by
    rw [← hf]
    funext x
    rw [View.readAt_apply]
    congr 1
    funext a
    exact Fin.ext (by simp)
  rw [hr]
  iapply HK
  iexists f
  isplitr; · ipureintro; exact hf
  iexact H

/-- A whole buffer held whole may be stored to. -/
theorem wp_stW {s : Shape} {e : EltTy} (M : Memref sig .tc .vmem s e) (X v : Vec F s e)
    {off : Fin s.rank → ℕ} (h0 : off = fun _ => 0) (inb : ∀ a, off a + s.size a ≤ s.size a)
    (hs) (hm) (P : PR F) (Q : PUnit → sProp 𝕄) :
    (owns (c : Thread nD τ) M fullShare X : sProp 𝕄) ⊢ iprop((owns (c : Thread nD τ) M fullShare v -∗ WP c P Q)
      -∗ WP c (.op (.store M (Rect.unit (s := s) off s.size inb) v Finset.univ hs hm) fun _ => P) Q) := by
  subst h0
  unfold owns
  iintro ⟨%f, %hf, H⟩ HK
  iapply (wp_store 𝒱₀ (c : Thread nD τ) none Set.univ (m := M) (r := Rect.unit (s := s) (fun _ => 0) s.size inb) (Mk := Finset.univ)
    (S := M.view.set) (View.set_slice_subset _ _)) $$ H
  iintro H
  iapply HK
  iexists _
  isplitr; swap; · iexact H
  ipureintro
  funext x
  have hx : (Rect.unit (s := s) (fun _ => 0) s.size inb).emb x = x := by
    funext a
    exact Fin.ext (by simp)
  have := congrFun (View.read_write_univ (v := M.view.slice (Rect.unit (s := s) (fun _ => 0) s.size inb)) f v) x
  rw [View.read_apply] at this ⊢
  rw [View.emb_slice, Function.Embedding.trans_apply, hx] at this
  exact this

end Rules

/-! ### The contents -/

/-- What the devices start from: their blocks of the input and of the weights. -/
structure Inp (F : FTy → Type) where
  x : Dev nD → Vec F S64x512 .bf16
  wi : Fin 3 → Dev nD → Vec F S512x1024 .bf16
  wo : Fin 3 → Dev nD → Vec F S1024x512 .bf16

/-- Row `i 1` of a buffer of eight blocks, as a place of its block. -/
def inRow {n : ℕ} (i : (⟨3, ![n, 512, 512]⟩ : Shape).Idx) : S1x64x512.Idx :=
  ValueIdx.ix3 0 ⟨(i 1).val % 64, Nat.mod_lt _ (by decide)⟩ (i 2)

/-- The block that row `i 1` lies in. -/
def ofRow {n : ℕ} (i : (⟨3, ![n, 512, 512]⟩ : Shape).Idx) : Dev nD :=
  ⟨(i 1).val / 64, by have : (i 1).val < 512 := (i 1).isLt; show _ < 8; omega⟩

/-- Eight blocks one under the other. -/
def slab (Y : Dev nD → Vec F S1x64x512 .bf16) : Vec F S1x512x512 .bf16 := fun i => Y (ofRow i) (inRow i)

/-- Three layers of eight blocks. -/
def spread (Y : Fin 3 → Dev nD → Vec F S1x64x512 .bf16) : Vec F S3x512x512 .bf16 := fun i => Y (i 0) (ofRow i) (inRow i)

/-- Device `s`'s partial product of layer `l` for a block of activations. -/
def Inp.part (I : Inp F) (l : Fin 3) (X : Vec F S1x64x512 .bf16) (s : Dev nD) : Vec F S1x64x512 .bf16 :=
  k0_pay4 X (k0_pay2 (I.wi l s)) (k0_pay3 (I.wo l s))

/-- Block `p` of the activations that layer `l` starts from. -/
def Inp.act (I : Inp F) (l : Fin 3) (p : Dev nD) : Vec F S1x64x512 .bf16 :=
  match l with
  | 0 => k0_pay1 (I.x p)
  | 1 => k0_pay16 (slab fun s => I.part 0 (k0_pay1 (I.x p)) s)
  | 2 => k0_pay16 (slab fun s => I.part 1 (k0_pay16 (slab fun s => I.part 0 (k0_pay1 (I.x p)) s)) s)

/-- Device `s`'s partial product of layer `l` for block `p`. -/
def Inp.par (I : Inp F) (l : Fin 3) (p s : Dev nD) : Vec F S1x64x512 .bf16 := I.part l (I.act l p) s

/-- Device `p`'s block of the result. -/
def Inp.res (I : Inp F) (p : Dev nD) : Vec F S64x512 .f32 := k0_pay45 (slab fun s => I.par 2 p s)

theorem emb_rect (l : Fin 3) (p : Dev nD) (x : S1x64x512.Idx) :
    (rect l p).emb x 0 = l ∧ ofRow ((rect l p).emb x) = p ∧ inRow ((rect l p).emb x) = x := by
  have h0 : (x 0).val < 1 := (x 0).isLt
  have h1 : (x 1).val < 64 := (x 1).isLt
  have e0 : ((rect l p).emb x 0).val = l.val + 1 * (x 0).val := rfl
  have e1 : ((rect l p).emb x 1).val = 64 * p.val + 1 * (x 1).val := rfl
  have e2 : ((rect l p).emb x 2).val = 0 + 1 * (x 2).val := rfl
  refine ⟨Fin.ext (by omega), Fin.ext (by show ((rect l p).emb x 1).val / 64 = p.val; omega), funext fun a => Fin.ext ?_⟩
  fin_cases a
  · show 0 = (x 0).val; omega
  · show ((rect l p).emb x 1).val % 64 = (x 1).val; omega
  · show ((rect l p).emb x 2).val = (x 2).val; omega

omit [FloatOps F] in
/-- Reading a block of the three layers gives the block. -/
theorem read_spread (Y : Fin 3 → Dev nD → Vec F S1x64x512 .bf16) (l : Fin 3) (p : Dev nD) :
    (fun x : S1x64x512.Idx => spread Y ((rect l p).emb x)) = Y l p := by
  funext x
  obtain ⟨h0, h1, h2⟩ := emb_rect l p x
  unfold spread
  rw [h0, h1, h2]

omit [FloatOps F] in
theorem held_g (c : Dev nD) (l : Fin 3) (p : Dev nD) (q : PosShare TreeShare) (Y : Fin 3 → Dev nD → Vec F S1x64x512 .bf16) :
    (held gM c l p q (Y l p) : sProp 𝕄) = (gM.view.loc (c : Thread nD τ) ↦[places gM (l, p)]{q} spread Y) :=
  held_at gM c l p q _ _ (read_spread Y l p)
omit [FloatOps F] in
theorem held_r (c : Dev nD) (l : Fin 3) (p : Dev nD) (q : PosShare TreeShare) (Y : Fin 3 → Dev nD → Vec F S1x64x512 .bf16) :
    (held rM c l p q (Y l p) : sProp 𝕄) = (rM.view.loc (c : Thread nD τ) ↦[places rM (l, p)]{q} spread Y) :=
  held_at rM c l p q _ _ (read_spread Y l p)

omit [FloatOps F] in
/-- A gathered block dealt into seven shares and a rest, and back. -/
theorem held_shares (c : Dev nD) (l : Fin 3) (p : Dev nD) (X : Vec F S1x64x512 .bf16) :
    (held gM c l p fullShare X : sProp 𝕄)
      = iprop(held gM c l p (shareDrop fullShare 7) X ∗ bigSep Finset.univ fun r : Fin 7 => held gM c l p (shareTok fullShare 7 r) X) := by
  have hq : ∀ q, (held gM c l p q X : sProp 𝕄) = (gM.view.loc (c : Thread nD τ) ↦[places gM (l, p)]{q} spread fun _ _ => X) :=
    fun q => held_g c l p q fun _ _ => X
  simp only [hq]
  exact BI.Entails.antisymm (pointsTo_toks fullShare 7).1 (pointsTo_toks fullShare 7).2

/-- The eight received blocks of a layer are read as one slab. -/
theorem wp_slab (c : Dev nD) (l : Fin 3) (Y : Dev nD → Vec F S1x64x512 .bf16) (K : Vec F S1x512x512 .bf16 → PR F) (Q : PUnit → sProp 𝕄) :
    (bigSep Finset.univ fun p : Dev nD => held rM c l p fullShare (Y p) : sProp 𝕄)
      ⊢ iprop(((bigSep Finset.univ fun p : Dev nD => held rM c l p fullShare (Y p)) -∗ WP c (K (slab Y)) Q) -∗ WP c (ldSlab l K) Q) := by
  have hq : (bigSep Finset.univ fun p : Dev nD => held rM c l p fullShare (Y p) : sProp 𝕄)
      = (rM.view.loc (c : Thread nD τ) ↦[Finset.univ.biUnion fun p : Dev nD => places rM (l, p)]{fullShare} spread fun _ => Y) := by
    rw [pointsTo_biUnion (ℓ := rM.view.loc (c : Thread nD τ)) Finset.univ (fun p : Dev nD => places rM (l, p))
      (fun b _ b' _ h => places_disjoint rM (l, b) (l, b') fun hh => h (congrArg Prod.snd hh))]
    exact bigSep_congr fun p _ => held_r c l p fullShare fun _ => Y
  rw [hq]
  unfold ldSlab
  iintro H HK
  iapply (wp_load 𝒱₀ (c : Thread nD τ) none Set.univ (m := rM) (S := Finset.univ.biUnion fun p : Dev nD => places rM (l, p)) (by
    intro i hi
    obtain ⟨x, hx, rfl⟩ := Finset.mem_map.mp hi
    obtain ⟨y, rfl⟩ := LoadRect.exists_idx_of_mem _ hx
    refine Finset.mem_biUnion.mpr ⟨ofRow y, Finset.mem_univ _, ?_⟩
    rw [places_eq]
    refine Finset.mem_map_of_mem _ (mem_rect.mpr ⟨?_, ?_⟩)
    · have : (y 0).val < 1 := (y 0).isLt
      show l.val + 1 * (y 0).val = l.val
      omega
    · show (0 + 1 * (y 1).val) / 64 = (y 1).val / 64
      omega)) $$ H
  iintro H
  have hr : rM.view.readAt (Elt F) (Rect.unit (s := S3x512x512) ![l.val, 0, 0] S1x512x512.size (slab_in l)).toLoadRect (spread fun _ => Y) = slab Y := by
    funext y
    show Y _ _ = Y _ _
    congr 1
    · exact Fin.ext (by show (0 + 1 * (y 1).val) / 64 = (y 1).val / 64; omega)
    · funext a
      refine Fin.ext ?_
      fin_cases a
      · rfl
      · show (0 + 1 * (y 1).val) % 64 = (y 1).val % 64; omega
      · show 0 + 1 * (y 2).val = (y 2).val; omega
  rw [hr]
  iapply HK
  iexact H

end Cert.KernelIdeal.Talk
-- ==== Proof.Protocol.lean ====
module

public import proofs.«01_k».proof.Proof.Data
public import Mathlib.Algebra.BigOperators.Intervals

@[expose] public section

noncomputable section

/-!
The protocol. Each device has a barrier semaphore and, for every layer and every peer, four transfer
semaphores. This file names them, says which credit each is to receive and what comes with it, in which
order a device pays what it owes, and that every wait waits below everything still owed.
-/

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
open Cert.KernelIdeal.Gen

variable {F : FTy → Type} [FloatOps F]

local notation "𝕄" => MT nD τ sig Unit (Elt F) ℕ UU ℕ

/-! ### The semaphores -/

/-- A transfer semaphore's name: its kind (0: the own block left for a peer, 1: a peer's block came, 2: a
    partial product left for a peer, 3: a partial product came), its layer and its peer. -/
abbrev Slot := Fin 4 × Fin 3 × Dev nD

/-- The semaphore's number. -/
def qn (k : Fin 4) (l : Fin 3) (s : Dev nD) : DmaSem sig :=
  ⟨8 + 24 * k.val + 8 * l.val + s.val, by
    have h1 := k.isLt; have h2 := l.isLt; have h3 : s.val < 8 := s.isLt
    show _ < 104; omega⟩

/-- The name of a semaphore number, if it has one. -/
def dec (q : DmaSem sig) : Option Slot :=
  if 8 ≤ q.val then
    some (⟨(q.val - 8) / 24, by have : q.val < 104 := q.isLt; omega⟩, ⟨(q.val - 8) % 24 / 8, by omega⟩, ⟨(q.val - 8) % 8, by show _ < 8; omega⟩)
  else none

theorem dec_qn : ∀ (k : Fin 4) (l : Fin 3) (s : Dev nD), dec (qn k l s) = some (k, l, s) := by decide +kernel

theorem sem_ag_send : ∀ (l : Fin 3) (s : Dev nD), sem1 cc0_scratch5 (cel l s) (cel_in l s) = qn 0 l s := by decide +kernel
theorem sem_ag_recv : ∀ (l : Fin 3) (s : Dev nD), sem1 cc0_scratch6 (cel l s) (cel_in l s) = qn 1 l s := by decide +kernel
theorem sem_rs_send : ∀ (l : Fin 3) (s : Dev nD), sem1 cc0_scratch7 (cel l s) (cel_in l s) = qn 2 l s := by decide +kernel
theorem sem_rs_recv : ∀ (l : Fin 3) (s : Dev nD), sem1 cc0_scratch8 (cel l s) (cel_in l s) = qn 3 l s := by decide +kernel

/-- The barrier semaphore. -/
abbrev barS : Sem sig := (SemArray.scalar (sig.barrier 0 rfl) : Sems sig S_).sem

abbrev barCell (c : Dev nD) : GSem nD τ sig := ((c : Thread nD τ), .reg barS)
abbrev dcell (c : Dev nD) (k : Fin 4) (l : Fin 3) (s : Dev nD) : GSem nD τ sig := ((c : Thread nD τ), .dma (qn k l s))

/-- A device's semaphores of the exchange, by name: the barrier or a transfer semaphore. -/
abbrev csem : Option Slot → SemLoc sig
  | none => .reg barS
  | some b => .dma (qn b.1 b.2.1 b.2.2)

abbrev Cell := Dev nD × Option Slot
abbrev kcell (ck : Cell) : GSem nD τ sig := ((ck.1 : Thread nD τ), csem ck.2)

/-- The name of a semaphore, if it takes part in the exchange. -/
def what (sm : SemLoc sig) : Option (Option Slot) :=
  match sm with
  | .reg q => if q = barS then some none else none
  | .dma q => (dec q).map some

theorem what_csem (x : Option Slot) : what (csem x) = some x := by
  cases x with
  | none => show (if barS = barS then some none else none) = _; exact if_pos rfl
  | some b => show (dec (qn b.1 b.2.1 b.2.2)).map some = _; rw [dec_qn]; rfl

theorem csem_injective : Function.Injective csem := fun a b h => by
  have := congrArg what h
  rw [what_csem, what_csem] at this
  exact Option.some.inj this

theorem kcell_injective : Function.Injective kcell := by
  rintro ⟨c, k⟩ ⟨c', k'⟩ h
  have h1 : c = c' := congrArg (fun g : GSem nD τ sig => g.1.1) h
  have h2 : k = k' := csem_injective (congrArg (fun g : GSem nD τ sig => g.2) h)
  rw [h1, h2]

/-! ### The peers -/

theorem nb_ne : ∀ (c : Dev nD) (r : Fin 7), nb c r ≠ c := by decide +kernel
theorem nb_nb : ∀ (c : Dev nD) (r : Fin 7), nb (nb c r) (rv r) = c := by decide +kernel
theorem rv_rv : ∀ r : Fin 7, rv (rv r) = r := by decide
theorem nb_inj : ∀ (c : Dev nD), Function.Injective (nb c) := by
  intro c r r' h
  have := congrArg Fin.val h
  simp only [nb] at this
  have h1 : c.val < 8 := c.isLt
  exact Fin.ext (by omega)

/-- At which step a device addresses a peer. -/
def stp (c s : Dev nD) : Fin 7 := ⟨(s.val + 7 - c.val) % 8 % 7, Nat.mod_lt _ (by decide)⟩

theorem stp_nb : ∀ (c : Dev nD) (r : Fin 7), stp c (nb c r) = r := by decide +kernel
theorem nb_stp : ∀ (c s : Dev nD), s ≠ c → nb c (stp c s) = s := by decide +kernel

/-- The peers are all other devices. -/
theorem nb_image (c : Dev nD) : (Finset.univ : Finset (Fin 7)).map ⟨nb c, nb_inj c⟩ = Finset.univ.erase c := by
  ext s
  simp only [Finset.mem_map, Finset.mem_univ, true_and, Function.Embedding.coeFn_mk, Finset.mem_erase, and_true]
  exact ⟨fun ⟨r, hr⟩ => hr ▸ nb_ne c r, fun h => ⟨stp c s, nb_stp c s h⟩⟩

omit [FloatOps F] in
/-- A resource for every other device is a resource for every step; -/
theorem bigSep_nb (c : Dev nD) (Φ : Dev nD → sProp 𝕄) :
    bigSep (Finset.univ.erase c) Φ = bigSep Finset.univ fun r : Fin 7 => Φ (nb c r) := by
  rw [← nb_image c, bigSep_map]; rfl

omit [FloatOps F] in
/-- with the device's own, it is a resource for every device; -/
theorem bigSep_dev (c : Dev nD) (Φ : Dev nD → sProp 𝕄) :
    bigSep Finset.univ Φ = iprop(Φ c ∗ bigSep Finset.univ fun r : Fin 7 => Φ (nb c r)) := by
  rw [bigSep_univ_at _ c, bigSep_nb]

/-- The steps in the other order. -/
def rvE : Fin 7 ≃ Fin 7 := ⟨rv, rv, rv_rv, rv_rv⟩

omit [FloatOps F] in
/-- and the order of the steps does not matter. -/
theorem bigSep_rv (Φ : Fin 7 → sProp 𝕄) : bigSep Finset.univ Φ = bigSep Finset.univ fun r : Fin 7 => Φ (rv r) :=
  bigSep_univ_equiv rvE Φ

/-- Device `c` at step `r` and the device it addresses, at the step at which that one addresses `c`. -/
def swapE : Dev nD × Fin 7 ≃ Dev nD × Fin 7 :=
  ⟨fun x => (nb x.1 x.2, rv x.2), fun x => (nb x.1 x.2, rv x.2),
    fun x => Prod.ext (nb_nb _ _) (rv_rv _), fun x => Prod.ext (nb_nb _ _) (rv_rv _)⟩

omit [FloatOps F] in
/-- What every device holds for every peer is what every peer holds for it. -/
theorem bigSep_swap (Φ : Dev nD → Dev nD → sProp 𝕄) :
    (bigSep Finset.univ fun c : Dev nD => bigSep Finset.univ fun r : Fin 7 => Φ c (nb c r))
      = bigSep Finset.univ fun c : Dev nD => bigSep Finset.univ fun r : Fin 7 => Φ (nb c r) c := by
  rw [← bigSep_univ_prod (fun x : Dev nD × Fin 7 => Φ x.1 (nb x.1 x.2)), ← bigSep_univ_prod (fun x : Dev nD × Fin 7 => Φ (nb x.1 x.2) x.1),
    bigSep_univ_equiv swapE (fun x : Dev nD × Fin 7 => Φ x.1 (nb x.1 x.2))]
  exact bigSep_congr fun x _ => by
    show Φ (nb x.1 x.2) (nb (nb x.1 x.2) (rv x.2)) = _
    rw [nb_nb]

/-! ### The schedule -/

/-- The credit of a block's transfer. -/
abbrev N0 : ℕ := (win gM (blk 0 0) (blk_in 0 0)).view.dmaCredit
theorem N0_pos : 0 < N0 := View.dmaCredit_pos _ (by decide)

/-- What comes with a credit: device `d`'s barrier signal lends `c` the places of `c`'s blocks in `d`'s
    buffers; a transfer that left returns the block it read; a transfer that came brings the block. -/
def pay (I : Inp F) (c : Dev nD) (x : Option (Option Slot)) (d : Dev nD) : sProp 𝕄 :=
  match x with
  | some none => iprop((bigSep Finset.univ fun l : Fin 3 => loose gM d l c) ∗ bigSep Finset.univ fun l : Fin 3 => loose rM d l c)
  | some (some (0, l, s)) => held gM c l c (shareTok fullShare 7 (stp c s)) (I.act l c)
  | some (some (1, l, s)) => held gM c l s fullShare (I.act l s)
  | some (some (2, l, s)) => held pM c l s fullShare (I.par l s c)
  | some (some (3, l, s)) => held rM c l s fullShare (I.par l c s)
  | none => iprop(emp)

omit [FloatOps F] in
/-- The duties of a semaphore: every other device's signal on the barrier, one transfer on a transfer
    semaphore named by another device. -/
def due (c : Dev nD) (x : Option (Option Slot)) : Finset (Dev nD) :=
  match x with
  | some none => Finset.univ.erase c
  | some (some (_, _, s)) => if s = c then ∅ else {0}
  | none => ∅

/-- The exchange: one round. -/
def Rd (I : Inp F) : Rounds.Schedule (GSem nD τ sig) (Dev nD) 𝕄 where
  duties g r := if r = 0 ∧ g.1.2 = .tc then due g.1.1 (what g.2) else ∅
  unitless _ := False
  amount g _ _ := match g.2 with | .reg _ => 1 | .dma _ => N0
  payload g _ d := pay I g.1.1 (what g.2) d
  amount_pos g _ _ _ := by
    rcases g with ⟨t, q | q⟩
    · exact Nat.one_pos
    · exact N0_pos

instance pay_storable (I : Inp F) (c : Dev nD) (x : Option (Option Slot)) (d : Dev nD) : BI.Storable (upEmb : UEmb _ 𝕄) (pay I c x d) := by
  unfold pay; split <;> infer_instance

instance Rd_storable (I : Inp F) (g : GSem nD τ sig) (r : ℕ) (d : Dev nD) : BI.Storable (upEmb : UEmb _ 𝕄) ((Rd I).payload g r d) :=
  pay_storable I _ _ _

section Sched
variable (I : Inp F) (c : Dev nD)

theorem duties_k (x : Option Slot) : (Rd I).duties (kcell (c, x)) 0 = due c (some x) := by
  show (if (0 : ℕ) = 0 ∧ (c : Thread nD τ).2 = .tc then due c (what (csem x)) else ∅) = _
  rw [what_csem, if_pos ⟨rfl, rfl⟩]
theorem duties_later (g : GSem nD τ sig) : ∀ r, 1 ≤ r → (Rd I).duties g r = ∅ :=
  fun r hr => if_neg fun h => by omega
theorem payload_k (x : Option Slot) (d : Dev nD) : (Rd I).payload (kcell (c, x)) 0 d = pay I c (some x) d := by
  show pay I c (what (csem x)) d = _
  rw [what_csem]
theorem amount_bar (d : Dev nD) : (Rd I).amount (barCell c) 0 d = 1 := rfl
theorem amount_d (k : Fin 4) (l : Fin 3) (s d : Dev nD) : (Rd I).amount (dcell c k l s) 0 d = N0 := rfl

theorem duties_bar : (Rd I).duties (barCell c) 0 = Finset.univ.erase c := duties_k I c none
theorem duties_d (k : Fin 4) (l : Fin 3) (r : Fin 7) : (Rd I).duties (dcell c k l (nb c r)) 0 = {0} :=
  (duties_k I c (some (k, l, nb c r))).trans (if_neg (nb_ne c r))
theorem duties_own (k : Fin 4) (l : Fin 3) (r : ℕ) : (Rd I).duties (dcell c k l c) r = ∅ := by
  rcases Nat.eq_zero_or_pos r with rfl | h
  · exact (duties_k I c (some (k, l, c))).trans (if_pos rfl)
  · exact duties_later I _ r h

theorem expect_bar : (Rd I).expect (barCell c) 0 = 7 := by
  unfold Schedule.expect Schedule.amountOf
  rw [duties_bar, Finset.sum_congr rfl fun d _ => amount_bar I c d, Finset.sum_const, Finset.card_erase_of_mem (Finset.mem_univ _), Finset.card_univ]
  rfl
theorem expect_d (k : Fin 4) (l : Fin 3) (r : Fin 7) : (Rd I).expect (dcell c k l (nb c r)) 0 = N0 := by
  unfold Schedule.expect Schedule.amountOf; rw [duties_d, Finset.sum_singleton, amount_d]

theorem rest_bar : bigSep ((Rd I).duties (barCell c) 0 \ ∅) (fun d => (Rd I).payload (barCell c) 0 d)
    = bigSep Finset.univ fun r : Fin 7 => pay I c (some none) (nb c r) := by
  rw [Finset.sdiff_empty, duties_bar, bigSep_nb]
  exact bigSep_congr fun r _ => payload_k I c none _
theorem rest_d (k : Fin 4) (l : Fin 3) (r : Fin 7) :
    bigSep ((Rd I).duties (dcell c k l (nb c r)) 0 \ ∅) (fun d => (Rd I).payload (dcell c k l (nb c r)) 0 d) = pay I c (some (some (k, l, nb c r))) 0 := by
  rw [Finset.sdiff_empty, duties_d, bigSep_singleton]
  exact payload_k I c (some (k, l, nb c r)) 0

end Sched

/-! ### What a device owes, in the order in which it pays -/

/-- The `j`-th payment: to which step's peer, and to its barrier or to which of its transfer semaphores. -/
def payIx (j : ℕ) : Fin 7 × Option (Fin 4 × Fin 3) :=
  if j < 7 then (⟨j % 7, Nat.mod_lt _ (by decide)⟩, none)
  else if (j - 7) % 14 < 7 then (⟨(j - 7) % 14 % 7, Nat.mod_lt _ (by decide)⟩, some (1, ⟨(j - 7) / 14 % 3, Nat.mod_lt _ (by decide)⟩))
  else (⟨(j - 7) % 14 % 7, Nat.mod_lt _ (by decide)⟩, some (3, ⟨(j - 7) / 14 % 3, Nat.mod_lt _ (by decide)⟩))

theorem payIx_bar : ∀ r : Fin 7, payIx r.val = (r, none) := by decide +kernel
theorem payIx_ag : ∀ (l : Fin 3) (r : Fin 7), payIx (7 + 14 * l.val + r.val) = (r, some (1, l)) := by decide +kernel
theorem payIx_rs : ∀ (l : Fin 3) (r : Fin 7), payIx (14 + 14 * l.val + r.val) = (r, some (3, l)) := by decide +kernel

/-- The semaphore's name at the receiver. -/
def paySlot (c : Dev nD) (x : Option (Fin 4 × Fin 3)) : Option Slot := x.map fun y => (y.1, y.2, c)
def payAmt (x : Option (Fin 4 × Fin 3)) : ℕ := match x with | none => 1 | some _ => N0
def payCell (c : Dev nD) (j : ℕ) : Cell := (nb c (payIx j).1, paySlot c (payIx j).2)

/-- What device `c` still owes after its first `n` payments. -/
def owed (c : Dev nD) (n : ℕ) : CellTallies nD τ sig Unit :=
  ∑ j ∈ Finset.Ico n 49, tallyAt (kcell (payCell c j)) () (payAmt (payIx j).2)

theorem owed_end (c : Dev nD) : owed c 49 = 0 := by unfold owed; rw [Finset.Ico_self, Finset.sum_empty]

theorem owed_peel (c : Dev nD) (n : ℕ) (h : n < 49) : owed c n = owed c (n + 1) + tallyAt (kcell (payCell c n)) () (payAmt (payIx n).2) := by
  unfold owed; rw [Finset.sum_eq_sum_Ico_succ_bot h, add_comm]

theorem owed_bar (c : Dev nD) (r : Fin 7) : owed c r.val = owed c (r.val + 1) + tallyAt (barCell (nb c r)) () 1 := by
  rw [owed_peel c r.val (by omega)]; unfold payCell; rw [payIx_bar]; rfl
theorem owed_ag (c : Dev nD) (l : Fin 3) (r : Fin 7) :
    owed c (7 + 14 * l.val + r.val) = owed c (7 + 14 * l.val + (r.val + 1)) + tallyAt (dcell (nb c r) 1 l c) () N0 := by
  rw [owed_peel c _ (by omega)]; unfold payCell; rw [payIx_ag]; rfl
theorem owed_rs (c : Dev nD) (l : Fin 3) (r : Fin 7) :
    owed c (14 + 14 * l.val + r.val) = owed c (14 + 14 * l.val + (r.val + 1)) + tallyAt (dcell (nb c r) 3 l c) () N0 := by
  rw [owed_peel c _ (by omega)]; unfold payCell; rw [payIx_rs]; rfl

/-! ### The levels -/

/-- Barriers at 1, then layer by layer the gathered blocks and the partial products; all others at 0. -/
def lvl (x : Option (Option (Fin 4 × Fin 3))) : ℕ :=
  match x with
  | some none => 1
  | some (some (1, l)) => 2 + 2 * l.val
  | some (some (3, l)) => 3 + 2 * l.val
  | _ => 0

def L (g : GSem nD τ sig) : Finset Unit := if g.1.2 = .tc then {()} else ∅
def lv (g : GSem nD τ sig) (_ : Unit) : ℕ := lvl ((what g.2).map fun x => x.map fun b => (b.1, b.2.1))

theorem L_of_ne (g : GSem nD τ sig) (h : g.1.2 ≠ .tc) : L g = ∅ := if_neg h
theorem L_tc (c : Dev nD) (sm : SemLoc sig) : L ((c : Thread nD τ), sm) = {()} := if_pos rfl

theorem lv_k (c : Dev nD) (x : Option Slot) : lv (kcell (c, x)) () = lvl (some (x.map fun b => (b.1, b.2.1))) := by
  unfold lv; rw [what_csem]; rfl
theorem lv_pay (c : Dev nD) (j : ℕ) : lv (kcell (payCell c j)) () = lvl (some (payIx j).2) := by
  unfold payCell
  rw [lv_k]
  unfold paySlot
  rcases (payIx j).2 with _ | y <;> rfl

/-- Later payments go to no lower level. -/
theorem lvl_later : ∀ (n j : Fin 49), n ≤ j → lvl (some (payIx n.val).2) ≤ lvl (some (payIx j.val).2) := by decide +kernel

theorem owed_pos {c : Dev nD} {n : ℕ} {g : GSem nD τ sig} {u : Unit} (h : 0 < owed c n g u) :
    ∃ j, n ≤ j ∧ j < 49 ∧ g = kcell (payCell c j) := by
  unfold owed at h
  rw [Finset.sum_apply, Finsupp.finset_sum_apply] at h
  obtain ⟨j, hj, h0⟩ := Finset.exists_ne_zero_of_sum_ne_zero (Nat.pos_iff_ne_zero.mp h)
  rw [tallyAt_apply] at h0
  have hj' := Finset.mem_Ico.mp hj
  refine ⟨j, hj'.1, hj'.2, ?_⟩
  by_contra hn
  exact h0 (if_neg fun hh => hn hh.1)

omit [FloatOps F] in
/-- A wait at a level below the next payment's is below all that is still owed. -/
theorem mayWait (c : Dev nD) (sm : SemLoc sig) (n : ℕ)
    (h : ∀ hn : n < 49, lv ((c : Thread nD τ), sm) () < lvl (some (payIx n).2)) :
    (levAts L lv : sProp 𝕄) ⊢ MayWait (c : Thread nD τ) sm () (owed c n) := by
  refine MayOwe.of_cut (L := L) (lev := lv) (lv ((c : Thread nD τ), sm) ())
    (fun p hp => by rw [Finset.mem_singleton.mp hp, L_tc]; exact Finset.mem_singleton_self _)
    (fun g u hg => by obtain ⟨j, -, -, rfl⟩ := owed_pos hg; exact Finset.mem_singleton_self _)
    (fun p hp => by rw [Finset.mem_singleton.mp hp])
    (fun g u hg => by
      obtain ⟨j, h1, h2, rfl⟩ := owed_pos hg
      have h3 := lvl_later ⟨n, by omega⟩ ⟨j, h2⟩ h1
      have h4 := h (by omega)
      rw [lv_pay]
      exact lt_of_lt_of_le h4 h3)

end Cert.KernelIdeal.Talk
-- ==== Proof.Steps.lean ====
module

public import proofs.«01_k».proof.Proof.Protocol

@[expose] public section

noncomputable section

/-!
What each step of the program does to the resources: a signal, a barrier wait, a block sent, a block
awaited, a partial product, and the loop over the seven peers.
-/

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
open Cert.KernelIdeal.Gen

variable {F : FTy → Type} [FloatOps F]

local notation "𝕄" => MT nD τ sig Unit (Elt F) ℕ UU ℕ

/-- What every device may always use: the semaphores' invariants, that each has begun, and the levels. -/
def ctx (I : Inp F) (K : Cell → ℕ) : sProp 𝕄 :=
  iprop((bigSep Finset.univ fun ck : Cell => cellInv ER (Rd I) (K ck) (kcell ck))
    ∗ (bigSep Finset.univ fun ck : Cell => reached ER (kcell ck) 0) ∗ levAts L lv)

instance ctx_persistent (I : Inp F) (K : Cell → ℕ) : BI.Persistent (ctx I K) := by unfold ctx; infer_instance

theorem ctx_inv (I : Inp F) (K : Cell → ℕ) (ck : Cell) : ctx I K ⊢ (cellInv ER (Rd I) (K ck) (kcell ck) : sProp 𝕄) := by
  unfold ctx
  iintro ⟨H, -, -⟩
  iapply (show (bigSep Finset.univ fun ck : Cell => cellInv ER (Rd I) (K ck) (kcell ck)) ⊢ (cellInv ER (Rd I) (K ck) (kcell ck) : sProp 𝕄) from
    bigSep_elim (Finset.mem_univ ck))
  iexact H
theorem ctx_reached (I : Inp F) (K : Cell → ℕ) (ck : Cell) : ctx I K ⊢ (reached ER (kcell ck) 0 : sProp 𝕄) := by
  unfold ctx
  iintro ⟨-, H, -⟩
  iapply (show (bigSep Finset.univ fun ck : Cell => reached ER (kcell ck) 0) ⊢ (reached ER (kcell ck) 0 : sProp 𝕄) from
    bigSep_elim (Finset.mem_univ ck))
  iexact H
theorem ctx_lev (I : Inp F) (K : Cell → ℕ) : ctx I K ⊢ (levAts L lv : sProp 𝕄) := by
  unfold ctx
  iintro ⟨-, -, H⟩
  iexact H

/-- Device `c` after its first `n` payments. -/
def ow (c : Dev nD) (n : ℕ) : sProp 𝕄 := iprop(∃ W, owes (c : Thread nD τ) (owed c n) W)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A loop over the peers: what holds after `n` of them, what a step takes, what it leaves. -/
theorem wp_each (c : Dev nD) (f : Fin 7 → PR F → PR F) (C : sProp 𝕄) [BI.Persistent C] (Inv : ℕ → sProp 𝕄) (pre post : Fin 7 → sProp 𝕄)
    (h : ∀ (r : Fin 7) (P : PR F) (Q : PUnit → sProp 𝕄),
      iprop(C ∗ Inv r.val ∗ pre r ∗ ((Inv (r.val + 1) ∗ post r) -∗ WP c P Q)) ⊢ WP c (f r P) Q) (P : PR F) (Q : PUnit → sProp 𝕄) :
    iprop(C ∗ Inv 0 ∗ bigSep Finset.univ pre ∗ ((Inv 7 ∗ bigSep Finset.univ post) -∗ WP c P Q)) ⊢ WP c (each f P) Q := by
  have hh : ∀ (n m : ℕ) (r : Fin 7), r.val = n → n + 1 = m → ∀ (P : PR F) (Q : PUnit → sProp 𝕄),
      iprop(C ∗ Inv n ∗ pre r ∗ ((Inv m ∗ post r) -∗ WP c P Q)) ⊢ WP c (f r P) Q := by
    rintro n m r rfl rfl; exact h r
  rw [bigSep_fin7, bigSep_fin7]
  unfold each
  iintro ⟨#HC, HI, ⟨H0, H1, H2, H3, H4, H5, H6⟩, HK⟩
  iapply (hh 0 1 0 rfl rfl)
  isplitr; · iexact HC
  isplitl [HI]; · iexact HI
  isplitl [H0]; · iexact H0
  iintro ⟨HI, G0⟩
  iapply (hh 1 2 1 rfl rfl)
  isplitr; · iexact HC
  isplitl [HI]; · iexact HI
  isplitl [H1]; · iexact H1
  iintro ⟨HI, G1⟩
  iapply (hh 2 3 2 rfl rfl)
  isplitr; · iexact HC
  isplitl [HI]; · iexact HI
  isplitl [H2]; · iexact H2
  iintro ⟨HI, G2⟩
  iapply (hh 3 4 3 rfl rfl)
  isplitr; · iexact HC
  isplitl [HI]; · iexact HI
  isplitl [H3]; · iexact H3
  iintro ⟨HI, G3⟩
  iapply (hh 4 5 4 rfl rfl)
  isplitr; · iexact HC
  isplitl [HI]; · iexact HI
  isplitl [H4]; · iexact H4
  iintro ⟨HI, G4⟩
  iapply (hh 5 6 5 rfl rfl)
  isplitr; · iexact HC
  isplitl [HI]; · iexact HI
  isplitl [H5]; · iexact H5
  iintro ⟨HI, G5⟩
  iapply (hh 6 7 6 rfl rfl)
  isplitr; · iexact HC
  isplitl [HI]; · iexact HI
  isplitl [H6]; · iexact H6
  iintro ⟨HI, G6⟩
  iapply HK
  isplitl [HI]; · iexact HI
  isplitl [G0]; · iexact G0
  isplitl [G1]; · iexact G1
  isplitl [G2]; · iexact G2
  isplitl [G3]; · iexact G3
  isplitl [G4]; · iexact G4
  isplitl [G5]; · iexact G5
  iexact G6

omit [FloatOps F] in
/-- What a block holds after a block was sent into it. -/
theorem read_sent (M M' : Memref sig .tc .vmem S3x512x512 .bf16) (l l' : Fin 3) (p p' : Dev nD)
    (fs : M.view.ty.Contents (Elt F)) (fd : M'.view.ty.Contents (Elt F)) :
    (blkM M' l' p').view.read (Elt F) ((win M' (blk l' p') (blk_in l' p')).view.write (Elt F) fd
      ((win M (blk l p) (blk_in l p)).view.read (Elt F) fs) Finset.univ) = (blkM M l p).view.read (Elt F) fs := by
  have h := View.read_write_univ (v := (win M' (blk l' p') (blk_in l' p')).view) fd ((win M (blk l p) (blk_in l p)).view.read (Elt F) fs)
  funext x
  obtain ⟨y, rfl⟩ := (Shape.reshapeEquiv (squeezes_S1x64x512_S64x512).numel_eq).surjective x
  exact congrFun h y

omit [FloatOps F] in
/-- A squeezed window's elements are its block's. -/
theorem win_pts (M : Memref sig .tc .vmem S3x512x512 .bf16) (c : Dev nD) (l : Fin 3) (p : Dev nD) (q : PosShare TreeShare)
    (f : Buf (Elt F) (M.view.loc (c : Thread nD τ))) :
    ((win M (blk l p) (blk_in l p)).view.loc (c : Thread nD τ) ↦[(win M (blk l p) (blk_in l p)).view.set]{q} f : sProp 𝕄)
      = (M.view.loc (c : Thread nD τ) ↦[places M (l, p)]{q} f) := by
  have h : (win M (blk l p) (blk_in l p)).view.set = places M (l, p) := View.set_reshape _ _
  exact congrArg (fun S => (M.view.loc (c : Thread nD τ) ↦[S]{q} f : sProp 𝕄)) h

omit [FloatOps F] in
theorem held_of_win (M : Memref sig .tc .vmem S3x512x512 .bf16) (c : Dev nD) (l : Fin 3) (p : Dev nD) (q : PosShare TreeShare)
    (X : Vec F S1x64x512 .bf16) (f : Buf (Elt F) (M.view.loc (c : Thread nD τ))) (hf : (blkM M l p).view.read (Elt F) f = X) :
    ((win M (blk l p) (blk_in l p)).view.loc (c : Thread nD τ) ↦[(win M (blk l p) (blk_in l p)).view.set]{q} f : sProp 𝕄)
      ⊢ held M c l p q X := by
  rw [win_pts, held_at M c l p q X f hf]

section Steps
variable (I : Inp F) (K : Cell → ℕ) (c : Dev nD)

/-- The tokens, positions and credits of the transfer semaphores. -/
abbrev tok (d : Dev nD) (k : Fin 4) (l : Fin 3) (s : Dev nD) : sProp 𝕄 := dutyTok ER (dcell d k l s) 0 0
abbrev pos (d : Dev nD) (k : Fin 4) (l : Fin 3) (s : Dev nD) (n : ℕ) : sProp 𝕄 := atPos ER (dcell d k l s) n ∅ 0
abbrev crd (d : Dev nD) (k : Fin 4) (l : Fin 3) (s : Dev nD) : sProp 𝕄 := cred (tallyAt (dcell d k l s) () N0)

/-- A signal to a peer's barrier: the places of the peer's blocks are lent to it. -/
theorem step_signal (r : Fin 7) (P : PR F) (Q : PUnit → sProp 𝕄) :
    iprop(ctx I K ∗ ow c r.val ∗ (dutyTok ER (barCell (nb c r)) 0 c ∗ pay I (nb c r) (some none) c)
      ∗ ((ow c (r.val + 1) ∗ emp) -∗ WP c P Q)) ⊢ WP c (pSignal c r P) Q := by
  unfold pSignal ow
  rw [devS_eq, owed_bar]
  iintro ⟨#HC, ⟨%W, HO⟩, ⟨Ht, Hp⟩, HK⟩
  iapply (Rounds.wp_signal 𝒱₀ ER (Rd I) (c : Thread nD τ) none (dst := (nb c r : Thread nD τ)) (κ := K (nb c r, none))
      (d := c) (by rw [duties_bar]; exact Finset.mem_erase.mpr ⟨(nb_ne c r).symm, Finset.mem_univ _⟩)
      ((amount_bar I (nb c r) c).trans (by decide)) () (owed c (r.val + 1)) rfl) $$ [HO Ht Hp]
  · isplitr; · iapply (ctx_inv I K (nb c r, none)); iexact HC
    isplitl [HO]; · iexact HO
    isplitl [Ht]; · iexact Ht
    isplitl [Hp]; · rw [payload_k I (nb c r) none c]; iexact Hp
    iapply (ctx_reached I K (nb c r, none)); iexact HC
  iintro HO
  iapply HK
  isplitl
  · iexists W; iexact HO
  · iempintro

/-- The wait for the peers' signals: the places of the own blocks come from every peer. -/
theorem step_barrier (P : PR F) (Q : PUnit → sProp 𝕄) :
    iprop(ctx I K ∗ ow c 7 ∗ cred (tallyAt (barCell c) () 7) ∗ atPos ER (barCell c) 0 ∅ 0
      ∗ ((ow c 7 ∗ atPos ER (barCell c) 1 ∅ 0 ∗ bigSep Finset.univ fun r : Fin 7 => pay I c (some none) (nb c r)) -∗ WP c P Q)) ⊢ WP c (pBarrier P) Q := by
  unfold pBarrier ow
  iintro ⟨#HC, ⟨%W, HO⟩, Hc, Ha, HK⟩
  iapply (Rounds.wp_wait_rest_token 𝒱₀ ER (Rd I) (c : Thread nD τ) none (κ := K (c, none))
      (wpE_semWait_eq 𝒱₀ (c : Thread nD τ) none Set.univ) (Set.mem_univ _) () (O := owed c 7) (W := W) (R := 0) (m := 0) (T := ∅)
      (by rw [expect_bar]; decide)) $$ [Hc HO Ha]
  · isplitr; · iapply (ctx_inv I K (c, none)); iexact HC
    isplitl [Hc]; · iexact Hc
    isplitl [HO]; · iexact HO
    isplitr
    · iapply (mayWait (F := F) c (.reg barS) 7 (by rw [lv_k c none]; decide)); iapply (ctx_lev I K); iexact HC
    iexact Ha
  iintro ⟨HO, Ha, -, Hp⟩
  ihave Hp := (Entails.of_eq (rest_bar I c)) $$ Hp
  iapply HK
  isplitl [HO]; · iexists _; iexact HO
  isplitl [Ha]; · iexact Ha
  iexact Hp

/-- A block sent to a peer: the block read comes back with the sender's semaphore, the block written goes
    with the receiver's. -/
theorem step_send (M M' : Memref sig .tc .vmem S3x512x512 .bf16) {o o' : Fin 3 → ℕ} {l l' : Fin 3} {p p' : Dev nD}
    (h : At o l p) (h' : At o' l' p') (t : Dev nD) (x x' : DmaSem sig) {k k' : Fin 4} {l₁ l₂ : Fin 3} {s₁ s₂ : Dev nD}
    (hx : x = qn k l₁ s₁) (hx' : x' = qn k' l₂ s₂) (q : PosShare TreeShare) (X : Vec F S1x64x512 .bf16)
    {O₀ O : CellTallies nD τ sig Unit} (hO : O₀ = O + tallyAt (dcell t k' l₂ s₂) () N0)
    (hd₁ : (0 : Dev nD) ∈ (Rd I).duties (dcell c k l₁ s₁) 0) (hd₂ : (0 : Dev nD) ∈ (Rd I).duties (dcell t k' l₂ s₂) 0)
    (hp₁ : held M c l p q X ⊢ pay I c (some (some (k, l₁, s₁))) 0)
    (hp₂ : held M' t l' p' fullShare X ⊢ pay I t (some (some (k', l₂, s₂))) 0)
    (hN : (win M' o' h'.inb).view.dmaCredit = N0) (e₁ e₂ e₃ e₄) (P : PR F) (Q : PUnit → sProp 𝕄) :
    iprop(ctx I K ∗ (∃ W, owes (c : Thread nD τ) O₀ W) ∗ held M c l p q X ∗ loose M' t l' p' ∗ tok c k l₁ s₁ ∗ tok t k' l₂ s₂
      ∗ ((crd c k l₁ s₁ ∗ ∃ W, owes (c : Thread nD τ) O W) -∗ WP c P Q))
      ⊢ WP c (.op (.enqueueDma (win M o h.inb) (.remote (Dev.tc t) (win M' o' h'.inb) (.dma x) e₁) (.dma x') e₂ e₃ e₄) fun _ => P) Q := by
  obtain ⟨rfl⟩ := h
  obtain ⟨rfl⟩ := h'
  subst hx hx'
  unfold held loose
  iintro ⟨#HC, ⟨%W, HO⟩, ⟨%fs, %hfs, Hs⟩, ⟨%fd, Hd⟩, Ht₁, Ht₂, HK⟩
  iapply (Rounds.wp_send_pointsTo 𝒱₀ ER (Rd I) (c : Thread nD τ) none (c' := (Dev.tc t : Thread nD τ))
    (src := win M (blk l p) (blk_in l p)) (dst := win M' (blk l' p') (blk_in l' p'))
    (κ₁ := K (c, some (k, l₁, s₁))) (κ₂ := K (t, some (k', l₂, s₂)))
    (r₁ := 0) (r₂ := 0) (d₁ := 0) (d₂ := 0) (fs := fs) (fd := fd) (q := q) hd₁ hd₂
    () () N0 hN (amount_d I c k l₁ s₁ 0) (amount_d I t k' l₂ s₂ 0) O hO (W := W)
    (by
      rw [payload_k I c (some (k, l₁, s₁)) 0]
      exact (held_of_win M c l p q X fs hfs).trans hp₁)
    (by
      rw [payload_k I t (some (k', l₂, s₂)) 0]
      exact (held_of_win M' t l' p' fullShare X _ ((read_sent M M' l l' p p' fs fd).trans hfs)).trans hp₂)) $$ [Hs Hd HO Ht₁ Ht₂]
  · isplitr; · iapply (ctx_inv I K (c, some (k, l₁, s₁))); iexact HC
    isplitr; · iapply (ctx_inv I K (t, some (k', l₂, s₂))); iexact HC
    isplitl [Hs]; · rw [win_pts]; iexact Hs
    isplitl [Hd]; · rw [win_pts]; iexact Hd
    isplitl [HO]; · iexact HO
    isplitl [Ht₁]; · iexact Ht₁
    isplitr; · iapply (ctx_reached I K (c, some (k, l₁, s₁))); iexact HC
    isplitl [Ht₂]; · iexact Ht₂
    iapply (ctx_reached I K (t, some (k', l₂, s₂))); iexact HC
  iintro ⟨Hc, HO⟩
  iapply HK
  isplitl [Hc]; · iexact Hc
  iexists W; iexact HO

/-- A block awaited. -/
theorem step_wait (M M' : Memref sig .tc .vmem S3x512x512 .bf16) {o o' : Fin 3 → ℕ} {l' l'' : Fin 3} {p p' : Dev nD}
    (h : At o l' p) (h' : At o' l'' p') (x : DmaSem sig) {k : Fin 4} {l : Fin 3} (r : Fin 7) (hx : x = qn k l (nb c r)) (n : ℕ)
    (hn : ∀ hn : n < 49, lvl (some (some (k, l))) < lvl (some (payIx n).2))
    (hN : (win M' o' h'.inb).view.dmaCredit = N0) (e₁ e₂) (P : PR F) (Q : PUnit → sProp 𝕄) :
    iprop(ctx I K ∗ ow c n ∗ crd c k l (nb c r) ∗ pos c k l (nb c r) 0
      ∗ ((ow c n ∗ pos c k l (nb c r) 1 ∗ pay I c (some (some (k, l, nb c r))) 0) -∗ WP c P Q))
      ⊢ WP c (.op (.waitDma2 x (win M o h.inb) (win M' o' h'.inb) e₁ e₂) fun _ => P) Q := by
  subst hx
  unfold ow
  iintro ⟨#HC, ⟨%W, HO⟩, Hc, Ha, HK⟩
  iapply (Rounds.wp_wait_rest_token 𝒱₀ ER (Rd I) (c : Thread nD τ) none (κ := K (c, some (k, l, nb c r)))
      (wpE_waitDma2_eq 𝒱₀ (c : Thread nD τ) none Set.univ) (Set.mem_univ _) () (O := owed c n) (W := W) (R := 0) (m := 0) (T := ∅)
      (by rw [Nat.zero_add, expect_d, hN])) $$ [Hc HO Ha]
  · isplitr; · iapply (ctx_inv I K (c, some (k, l, nb c r))); iexact HC
    isplitl [Hc]; · rw [hN]; iexact Hc
    isplitl [HO]; · iexact HO
    isplitr
    · iapply (mayWait (F := F) c (.dma (qn k l (nb c r))) n (by rw [lv_k c (some (k, l, nb c r))]; exact hn)); iapply (ctx_lev I K); iexact HC
    iexact Ha
  iintro ⟨HO, Ha, -, Hp⟩
  ihave Hp := (Entails.of_eq (rest_d I c k l r)) $$ Hp
  iapply HK
  isplitl [HO]; · iexists _; iexact HO
  isplitl [Ha]; · iexact Ha
  iexact Hp

end Steps

end Cert.KernelIdeal.Talk
-- ==== Proof.Layer.lean ====
module

public import proofs.«01_k».proof.Proof.Steps

@[expose] public section

noncomputable section

/-!
One layer of the program, and the waits that end it: what a device holds before and after.
-/

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
open Cert.KernelIdeal.Gen

variable {F : FTy → Type} [FloatOps F]

local notation "𝕄" => MT nD τ sig Unit (Elt F) ℕ UU ℕ

variable (I : Inp F) (K : Cell → ℕ) (c : Dev nD)

/-- A whole buffer at some contents. -/
def someW {s : Shape} {e : EltTy} (M : Memref sig .tc .vmem s e) : sProp 𝕄 := iprop(∃ X, owns (c : Thread nD τ) M fullShare X)

/-- The staged weights of a layer. -/
def stagedW (l : Fin 3) : sProp 𝕄 :=
  iprop(owns (c : Thread nD τ) (winM l) fullShare (I.wi l c) ∗ owns (c : Thread nD τ) (woutM l) fullShare (I.wo l c))

/-- The weights of a layer, brought in. -/
def broughtW (l : Fin 3) : sProp 𝕄 :=
  iprop(owns (c : Thread nD τ) wiM fullShare (k0_pay2 (I.wi l c)) ∗ owns (c : Thread nD τ) woM fullShare (k0_pay3 (I.wo l c)))

theorem z2 : (![0, 0] : Fin 2 → ℕ) = fun _ => 0 := by decide

/-- A whole buffer at some contents may be read, the value unknown. -/
theorem someW_ld {s : Shape} {e : EltTy} (M : Memref sig .tc .vmem s e)
    {off : Fin s.rank → ℕ} (h0 : off = fun _ => 0) (inb : ∀ a, off a + s.size a ≤ s.size a)
    (hl : M.view.LoadsAt (Rect.unit (s := s) off s.size inb).toLoadRect) (P : PR F) (Q : PUnit → sProp 𝕄) :
    (someW c M : sProp 𝕄) ⊢ iprop((someW c M -∗ WP c P Q)
      -∗ WP c (.op (.load M (Rect.unit (s := s) off s.size inb).toLoadRect hl) fun _ => P) Q) := by
  unfold someW
  iintro ⟨%X, H⟩ HK
  iapply (wp_ldW c M fullShare X h0 inb hl (fun _ => P) Q) $$ H
  iintro H
  iapply HK
  iexists X; iexact H

/-- A whole buffer at some contents may be stored to. -/
theorem someW_st {s : Shape} {e : EltTy} (M : Memref sig .tc .vmem s e) (v : Vec F s e)
    {off : Fin s.rank → ℕ} (h0 : off = fun _ => 0) (inb : ∀ a, off a + s.size a ≤ s.size a)
    (hs) (hm) (P : PR F) (Q : PUnit → sProp 𝕄) :
    (someW c M : sProp 𝕄) ⊢ iprop((owns (c : Thread nD τ) M fullShare v -∗ WP c P Q)
      -∗ WP c (.op (.store M (Rect.unit (s := s) off s.size inb) v Finset.univ hs hm) fun _ => P) Q) := by
  unfold someW
  iintro ⟨%X, H⟩ HK
  iapply (wp_stW c M X v h0 inb hs hm P Q) $$ H
  iexact HK

theorem duty_own (k : Fin 4) (l : Fin 3) (r : Fin 7) : (0 : Dev nD) ∈ (Rd I).duties (dcell c k l (nb c r)) 0 := by
  rw [duties_d]; exact Finset.mem_singleton_self _
theorem duty_peer (k : Fin 4) (l : Fin 3) (r : Fin 7) : (0 : Dev nD) ∈ (Rd I).duties (dcell (nb c r) k l c) 0 := by
  have h : (Rd I).duties (dcell (nb c r) k l c) 0 = {0} := (duties_k I (nb c r) (some (k, l, c))).trans (if_neg (nb_ne c r).symm)
  rw [h]; exact Finset.mem_singleton_self _

theorem at_ag_send {l : Fin 3} {s : Dev nD} {o} (e : o = cel l s) (h : InS o) : sem1 cc0_scratch5 o h = qn 0 l s := by
  subst e; exact sem_ag_send l s
theorem at_ag_recv {l : Fin 3} {s : Dev nD} {o} (e : o = cel l s) (h : InS o) : sem1 cc0_scratch6 o h = qn 1 l s := by
  subst e; exact sem_ag_recv l s
theorem at_rs_send {l : Fin 3} {s : Dev nD} {o} (e : o = cel l s) (h : InS o) : sem1 cc0_scratch7 o h = qn 2 l s := by
  subst e; exact sem_rs_send l s
theorem at_rs_recv {l : Fin 3} {s : Dev nD} {o} (e : o = cel l s) (h : InS o) : sem1 cc0_scratch8 o h = qn 3 l s := by
  subst e; exact sem_rs_recv l s

/-- What sending the own block of layer `l` to peer `r` takes. -/
def gatherPre (l : Fin 3) (r : Fin 7) : sProp 𝕄 :=
  iprop(held gM c l c (shareTok fullShare 7 r) (I.act l c) ∗ loose gM (nb c r) l c ∗ tok c 0 l (nb c r) ∗ tok (nb c r) 1 l c)

/-- The own block sent to a peer. -/
theorem step_gather (l : Fin 3) (r : Fin 7) (P : PR F) (Q : PUnit → sProp 𝕄) :
    iprop(ctx I K ∗ ow c (7 + 14 * l.val + r.val) ∗ gatherPre I c l r
      ∗ ((ow c (7 + 14 * l.val + (r.val + 1)) ∗ crd c 0 l (nb c r)) -∗ WP c P Q)) ⊢ WP c (pGather l c r P) Q := by
  unfold pGather ow gatherPre sendB
  rw [devA_eq]
  iintro ⟨#HC, HO, ⟨Hs, Hd, Ht₁, Ht₂⟩, HK⟩
  iapply (step_send I K c gM gM (aSelfW l c) (aSelfW l c) (nb c r) _ _
    (at_ag_send (semPeer_eq l r c) _) (at_ag_recv (semSelf_eq l c) _) (shareTok fullShare 7 r) (I.act l c)
    (owed_ag c l r) (duty_own I c 0 l r) (duty_peer I c 1 l r)
    (by unfold pay; simp only [stp_nb]; exact BI.Entails.refl _) (by unfold pay; exact BI.Entails.refl _) rfl) $$ [HO Hs Hd Ht₁ Ht₂ HK]
  isplitr; · iexact HC
  isplitl [HO]; · iexact HO
  isplitl [Hs]; · iexact Hs
  isplitl [Hd]; · iexact Hd
  isplitl [Ht₁]; · iexact Ht₁
  isplitl [Ht₂]; · iexact Ht₂
  iintro ⟨Hc, HO⟩
  iapply HK
  isplitl [HO]; · iexact HO
  iexact Hc

/-- The weights of a layer brought in. -/
theorem step_weights (l : Fin 3) (P : PR F) (Q : PUnit → sProp 𝕄) :
    iprop(stagedW I c l ∗ someW c wiM ∗ someW c woM ∗ ((stagedW I c l ∗ broughtW I c l) -∗ WP c P Q)) ⊢ WP c (pWeights l P) Q := by
  unfold pWeights stagedW broughtW ldI ldO
  iintro ⟨⟨H1, H2⟩, H3, H4, HK⟩
  iapply (wp_ldW c (winM l) fullShare _ z2 inb_S512x1024_S512x1024_0_0) $$ H1
  iintro H1
  iapply (someW_ld c wiM z2 inb_S512x1024_S512x1024_0_0) $$ H3
  iintro H3
  iapply (someW_st c wiM (k0_pay2 (I.wi l c)) z2 inb_S512x1024_S512x1024_0_0) $$ H3
  iintro H3
  iapply (wp_ldW c (woutM l) fullShare _ z2 inb_S1024x512_S1024x512_0_0) $$ H2
  iintro H2
  iapply (someW_ld c woM z2 inb_S1024x512_S1024x512_0_0) $$ H4
  iintro H4
  iapply (someW_st c woM (k0_pay3 (I.wo l c)) z2 inb_S1024x512_S1024x512_0_0) $$ H4
  iintro H4
  iapply HK
  isplitl [H1 H2]
  · isplitl [H1]; · iexact H1
    iexact H2
  isplitl [H3]; · iexact H3
  iexact H4

/-- The own block's partial product. -/
theorem step_own (l : Fin 3) (P : PR F) (Q : PUnit → sProp 𝕄) :
    iprop(held gM c l c (shareDrop fullShare 7) (I.act l c) ∗ broughtW I c l ∗ loose rM c l c
      ∗ ((held gM c l c (shareDrop fullShare 7) (I.act l c) ∗ broughtW I c l ∗ held rM c l c fullShare (I.par l c c)) -∗ WP c P Q))
      ⊢ WP c (pOwn l c P) Q := by
  unfold pOwn broughtW
  iintro ⟨Hg, ⟨Hi, Ho⟩, Hr, HK⟩
  iapply (wp_ldB c gM (aSelfA l c) (shareDrop fullShare 7) (I.act l c)) $$ Hg
  iintro Hg
  unfold ldI ldO
  iapply (wp_ldW c wiM fullShare _ z2 inb_S512x1024_S512x1024_0_0) $$ Hi
  iintro Hi
  iapply (wp_ldW c woM fullShare _ z2 inb_S1024x512_S1024x512_0_0) $$ Ho
  iintro Ho
  iapply (wp_ldB_loose c rM (aSelfA l c)) $$ Hr
  iintro Hr
  iapply (wp_stB c rM rW (aSelfA l c)) $$ Hr
  iintro Hr
  iapply HK
  isplitl [Hg]; · iexact Hg
  isplitl [Hi Ho]
  · isplitl [Hi]; · iexact Hi
    iexact Ho
  iexact Hr

/-- What computing for peer `r` takes, -/
def stepPre (l : Fin 3) (r : Fin 7) : sProp 𝕄 :=
  iprop(crd c 1 l (nb c r) ∗ pos c 1 l (nb c r) 0 ∗ loose pM c l (nb c r) ∗ loose rM (nb c r) l c ∗ tok c 2 l (nb c r) ∗ tok (nb c r) 3 l c)
/-- and what it leaves. -/
def stepPost (l : Fin 3) (r : Fin 7) : sProp 𝕄 :=
  iprop(held gM c l (nb c r) fullShare (I.act l (nb c r)) ∗ pos c 1 l (nb c r) 1 ∗ crd c 2 l (nb c r))

/-- A peer's block awaited, its partial product computed and sent back. -/
theorem step_step (l : Fin 3) (r : Fin 7) (P : PR F) (Q : PUnit → sProp 𝕄) :
    iprop(ctx I K ∗ (ow c (14 + 14 * l.val + r.val) ∗ broughtW I c l) ∗ stepPre c l r
      ∗ (((ow c (14 + 14 * l.val + (r.val + 1)) ∗ broughtW I c l) ∗ stepPost I c l r) -∗ WP c P Q)) ⊢ WP c (pStep l c r P) Q := by
  unfold pStep broughtW stepPre stepPost sendB
  rw [devR_eq]
  iintro ⟨#HC, ⟨HO, Hi, Ho⟩, ⟨Hc, Ha, Hp, Hr, Ht₁, Ht₂⟩, HK⟩
  unfold waitB
  iapply (step_wait I K c gM gM (aPeerW l r c) (aPeerW l r c) _ (k := 1) (l := l) r (at_ag_recv (semPeer_eq l r c) _)
    (14 + 14 * l.val + r.val) (by revert l r; decide) rfl)
  isplitr; · iexact HC
  isplitl [HO]; · iexact HO
  isplitl [Hc]; · iexact Hc
  isplitl [Ha]; · iexact Ha
  iintro ⟨HO, Ha, Hg⟩
  unfold pay ow
  iapply (wp_ldB c gM (aPeerA l r c) fullShare (I.act l (nb c r))) $$ Hg
  iintro Hg
  unfold ldI ldO
  iapply (wp_ldW c wiM fullShare _ z2 inb_S512x1024_S512x1024_0_0) $$ Hi
  iintro Hi
  iapply (wp_ldW c woM fullShare _ z2 inb_S1024x512_S1024x512_0_0) $$ Ho
  iintro Ho
  iapply (wp_ldB_loose c pM (aPeerA l r c)) $$ Hp
  iintro Hp
  iapply (wp_stB c pM pW (aPeerA l r c)) $$ Hp
  iintro Hp
  iapply (step_send I K c pM rM (aPeerW l r c) (aSelfW l c) (nb c r) _ _
    (at_rs_send (semPeer_eq l r c) _) (at_rs_recv (semSelf_eq l c) _) fullShare (I.par l (nb c r) c)
    (owed_rs c l r) (duty_own I c 2 l r) (duty_peer I c 3 l r)
    (by unfold pay; exact BI.Entails.refl _) (by unfold pay; exact BI.Entails.refl _) rfl) $$ [HO Hp Hr Ht₁ Ht₂ HK Hg Ha Hi Ho]
  isplitr; · iexact HC
  isplitl [HO]; · iexact HO
  isplitl [Hp]; · iexact Hp
  isplitl [Hr]; · iexact Hr
  isplitl [Ht₁]; · iexact Ht₁
  isplitl [Ht₂]; · iexact Ht₂
  iintro ⟨Hc, HO⟩
  iapply HK
  isplitl [HO Hi Ho]
  · isplitl [HO]; · iexact HO
    isplitl [Hi]; · iexact Hi
    iexact Ho
  isplitl [Hg]; · iexact Hg
  isplitl [Ha]; · iexact Ha
  iexact Hc

/-- A wait of a loop: what it takes, -/
def waitPre (k : Fin 4) (l : Fin 3) (r : Fin 7) : sProp 𝕄 := iprop(crd c k l (nb c r) ∗ pos c k l (nb c r) 0)
/-- and what it leaves. -/
def waitPost (k : Fin 4) (l : Fin 3) (r : Fin 7) : sProp 𝕄 := iprop(pos c k l (nb c r) 1 ∗ pay I c (some (some (k, l, nb c r))) 0)

/-- A peer's partial product awaited. -/
theorem step_recv (l : Fin 3) (r : Fin 7) (P : PR F) (Q : PUnit → sProp 𝕄) :
    iprop(ctx I K ∗ ow c (21 + 14 * l.val) ∗ waitPre c 3 l (rv r)
      ∗ ((ow c (21 + 14 * l.val) ∗ waitPost I c 3 l (rv r)) -∗ WP c P Q)) ⊢ WP c (pRecv l c r P) Q := by
  unfold pRecv waitPre waitPost waitB
  iintro ⟨#HC, HO, ⟨Hc, Ha⟩, HK⟩
  iapply (step_wait I K c rM rM (aSrcW l r c) (aSrcW l r c) _ (k := 3) (l := l) (rv r) (at_rs_recv (semSrc_eq l r c) _)
    (21 + 14 * l.val) (by revert l; decide) rfl)
  isplitr; · iexact HC
  isplitl [HO]; · iexact HO
  isplitl [Hc]; · iexact Hc
  isplitl [Ha]; · iexact Ha
  iexact HK

/-- The wait for the own block's transfer to a peer. -/
theorem step_gathered (l : Fin 3) (r : Fin 7) (P : PR F) (Q : PUnit → sProp 𝕄) :
    iprop(ctx I K ∗ ow c 49 ∗ waitPre c 0 l r ∗ ((ow c 49 ∗ waitPost I c 0 l r) -∗ WP c P Q)) ⊢ WP c (pGathered l c r P) Q := by
  unfold pGathered waitPre waitPost waitB
  iintro ⟨#HC, HO, ⟨Hc, Ha⟩, HK⟩
  iapply (step_wait I K c gM gM (aSelfW l c) (aSelfW l c) _ (k := 0) (l := l) r (at_ag_send (semPeer_eq l r c) _)
    49 (fun h => absurd h (by decide)) rfl)
  isplitr; · iexact HC
  isplitl [HO]; · iexact HO
  isplitl [Hc]; · iexact Hc
  isplitl [Ha]; · iexact Ha
  iexact HK

/-- The wait for a partial product's transfer to a peer. -/
theorem step_sent (l : Fin 3) (r : Fin 7) (P : PR F) (Q : PUnit → sProp 𝕄) :
    iprop(ctx I K ∗ ow c 49 ∗ waitPre c 2 l r ∗ ((ow c 49 ∗ waitPost I c 2 l r) -∗ WP c P Q)) ⊢ WP c (pSent l c r P) Q := by
  unfold pSent waitPre waitPost waitB
  iintro ⟨#HC, HO, ⟨Hc, Ha⟩, HK⟩
  iapply (step_wait I K c rM pM (aSelfW l c) (aPeerW l r c) _ (k := 2) (l := l) r (at_rs_send (semPeer_eq l r c) _)
    49 (fun h => absurd h (by decide)) rfl)
  isplitr; · iexact HC
  isplitl [HO]; · iexact HO
  isplitl [Hc]; · iexact Hc
  isplitl [Ha]; · iexact Ha
  iexact HK

/-- What a layer takes for sending the own block to peer `r`, besides the block, -/
def gatherRest (l : Fin 3) (r : Fin 7) : sProp 𝕄 := iprop(loose gM (nb c r) l c ∗ tok c 0 l (nb c r) ∗ tok (nb c r) 1 l c)

/-- what a layer takes, -/
def layPre (l : Fin 3) : sProp 𝕄 :=
  iprop((bigSep Finset.univ fun r : Fin 7 => gatherRest c l r) ∗ loose rM c l c ∗ (bigSep Finset.univ fun r : Fin 7 => stepPre c l r)
    ∗ bigSep Finset.univ fun r : Fin 7 => waitPre c 3 l r)

/-- and what it leaves. -/
def layPost (l : Fin 3) : sProp 𝕄 :=
  iprop(held gM c l c (shareDrop fullShare 7) (I.act l c) ∗ (bigSep Finset.univ fun r : Fin 7 => crd c 0 l (nb c r))
    ∗ (bigSep Finset.univ fun r : Fin 7 => stepPost I c l r) ∗ (bigSep Finset.univ fun r : Fin 7 => pos c 3 l (nb c r) 1)
    ∗ bigSep Finset.univ fun p : Dev nD => held rM c l p fullShare (I.par l c p))

/-- A layer: from the own block of activations to the eight summands of its own block. -/
theorem wp_layer (l : Fin 3) (P : Vec F S1x512x512 .bf16 → PR F) (Q : PUnit → sProp 𝕄) :
    iprop(ctx I K ∗ ow c (7 + 14 * l.val) ∗ held gM c l c fullShare (I.act l c) ∗ stagedW I c l ∗ someW c wiM ∗ someW c woM ∗ layPre c l
      ∗ ((ow c (21 + 14 * l.val) ∗ stagedW I c l ∗ someW c wiM ∗ someW c woM ∗ layPost I c l) -∗ WP c (P (slab fun s => I.par l c s)) Q))
      ⊢ WP c (pLayer l c P) Q := by
  unfold pLayer layPre layPost
  rw [held_shares]
  iintro ⟨#HC, HO, ⟨Hd, Hs⟩, Hw, Hi, Ho, ⟨HA, Hr, HB, HR⟩, HK⟩
  iapply (wp_each c (pGather l c) (ctx I K) (fun n => ow c (7 + 14 * l.val + n)) (gatherPre I c l) (fun r => crd c 0 l (nb c r))
    (fun r P Q => step_gather I K c l r P Q))
  isplitr; · iexact HC
  isplitl [HO]; · iexact HO
  isplitl [Hs HA]
  · unfold gatherPre
    rw [bigSep_sep']
    isplitl [Hs]; · iexact Hs
    unfold gatherRest
    iexact HA
  iintro ⟨HO, HA⟩
  iapply (step_weights I c l)
  isplitl [Hw]; · iexact Hw
  isplitl [Hi]; · iexact Hi
  isplitl [Ho]; · iexact Ho
  iintro ⟨Hw, Hb⟩
  iapply (step_own I c l)
  isplitl [Hd]; · iexact Hd
  isplitl [Hb]; · iexact Hb
  isplitl [Hr]; · iexact Hr
  iintro ⟨Hd, Hb, Hr⟩
  iapply (wp_each c (pStep l c) (ctx I K) (fun n => iprop(ow c (14 + 14 * l.val + n) ∗ broughtW I c l)) (stepPre c l) (stepPost I c l)
    (fun r P Q => step_step I K c l r P Q))
  isplitr; · iexact HC
  isplitl [HO Hb]
  · isplitl [HO]
    · rw [show 14 + 14 * l.val + 0 = 7 + 14 * l.val + 7 by omega]; iexact HO
    · iexact Hb
  isplitl [HB]; · iexact HB
  iintro ⟨⟨HO, Hb⟩, HB⟩
  iapply (wp_each c (pRecv l c) (ctx I K) (fun _ => ow c (21 + 14 * l.val)) (fun r => waitPre c 3 l (rv r)) (fun r => waitPost I c 3 l (rv r))
    (fun r P Q => step_recv I K c l r P Q))
  isplitr; · iexact HC
  isplitl [HO]; · rw [show 21 + 14 * l.val = 14 + 14 * l.val + 7 by omega]; iexact HO
  isplitl [HR]; · rw [← bigSep_rv (fun r => waitPre c 3 l r)]; iexact HR
  iintro ⟨HO, HR⟩
  ihave HR := (Entails.of_eq (bigSep_rv (fun r => waitPost I c 3 l r)).symm) $$ HR
  unfold waitPost
  ihave HR := (Entails.of_eq (bigSep_sep' Finset.univ (fun r => pos c 3 l (nb c r) 1) (fun r => pay I c (some (some (3, l, nb c r))) 0))) $$ HR
  icases HR with ⟨HR, Hp⟩
  iapply (wp_slab c l (fun s => I.par l c s)) $$ [Hr Hp]
  · rw [bigSep_dev c]
    isplitl [Hr]; · iexact Hr
    unfold pay
    iexact Hp
  iintro Hp
  iapply HK
  isplitl [HO]; · iexact HO
  isplitl [Hw]; · iexact Hw
  unfold broughtW someW
  icases Hb with ⟨Hi, Ho⟩
  isplitl [Hi]; · iexists _; iexact Hi
  isplitl [Ho]; · iexists _; iexact Ho
  isplitl [Hd]; · iexact Hd
  isplitl [HA]; · iexact HA
  isplitl [HB]; · iexact HB
  isplitl [HR]; · iexact HR
  iexact Hp

/-- The positions the ending waits start from. -/
def drainPos (l : Fin 3) : sProp 𝕄 :=
  iprop((bigSep Finset.univ fun r : Fin 7 => pos c 0 l (nb c r) 0) ∗ bigSep Finset.univ fun r : Fin 7 => pos c 2 l (nb c r) 0)

/-- All that is left of a layer. -/
def layDone (l : Fin 3) : sProp 𝕄 :=
  iprop((bigSep Finset.univ fun p : Dev nD => loose gM c l p) ∗ (bigSep Finset.univ fun r : Fin 7 => loose pM c l (nb c r))
    ∗ (bigSep Finset.univ fun p : Dev nD => loose rM c l p)
    ∗ bigSep Finset.univ fun k : Fin 4 => bigSep Finset.univ fun r : Fin 7 => pos c k l (nb c r) 1)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
theorem mono_univ {ι : Type} [Fintype ι] {Φ Ψ : ι → sProp 𝕄} (h : ∀ i, Φ i ⊢ Ψ i) : bigSep Finset.univ Φ ⊢ bigSep Finset.univ Ψ :=
  bigSep_mono fun i _ => h i

/-- The waits that end a layer: the blocks sent come back. -/
theorem wp_drain (l : Fin 3) (P : PR F) (Q : PUnit → sProp 𝕄) :
    iprop(ctx I K ∗ ow c 49 ∗ layPost I c l ∗ drainPos c l ∗ ((ow c 49 ∗ layDone c l) -∗ WP c P Q)) ⊢ WP c (pDrain l c P) Q := by
  unfold pDrain layPost drainPos
  iintro ⟨#HC, HO, ⟨Hd, HA, HB, HR, Hr⟩, ⟨H0, H2⟩, HK⟩
  unfold stepPost
  ihave HB := (Entails.of_eq (bigSep_sep' Finset.univ (fun r => held gM c l (nb c r) fullShare (I.act l (nb c r))) (fun r => iprop(pos c 1 l (nb c r) 1 ∗ crd c 2 l (nb c r))))) $$ HB
  icases HB with ⟨Hg, HB⟩
  ihave HB := (Entails.of_eq (bigSep_sep' Finset.univ (fun r => pos c 1 l (nb c r) 1) (fun r => crd c 2 l (nb c r)))) $$ HB
  icases HB with ⟨H1, HB⟩
  iapply (wp_each c (pGathered l c) (ctx I K) (fun _ => ow c 49) (fun r => waitPre c 0 l r) (fun r => waitPost I c 0 l r)
    (fun r P Q => step_gathered I K c l r P Q))
  isplitr; · iexact HC
  isplitl [HO]; · iexact HO
  isplitl [HA H0]
  · unfold waitPre; rw [bigSep_sep']
    isplitl [HA]; · iexact HA
    iexact H0
  iintro ⟨HO, HA⟩
  iapply (wp_each c (pSent l c) (ctx I K) (fun _ => ow c 49) (fun r => waitPre c 2 l r) (fun r => waitPost I c 2 l r)
    (fun r P Q => step_sent I K c l r P Q))
  isplitr; · iexact HC
  isplitl [HO]; · iexact HO
  isplitl [HB H2]
  · unfold waitPre; rw [bigSep_sep']
    isplitl [HB]; · iexact HB
    iexact H2
  iintro ⟨HO, HB⟩
  iapply HK
  isplitl [HO]; · iexact HO
  unfold waitPost layDone
  ihave HA := (Entails.of_eq (bigSep_sep' Finset.univ (fun r => pos c 0 l (nb c r) 1) (fun r => pay I c (some (some (0, l, nb c r))) 0))) $$ HA
  icases HA with ⟨H0, HA⟩
  ihave HB := (Entails.of_eq (bigSep_sep' Finset.univ (fun r => pos c 2 l (nb c r) 1) (fun r => pay I c (some (some (2, l, nb c r))) 0))) $$ HB
  icases HB with ⟨H2, HB⟩
  isplitl [Hd HA Hg]
  · rw [bigSep_dev c (fun p => loose gM c l p)]
    isplitl [Hd HA]
    · iapply (held_loose gM c l c (I.act l c))
      rw [held_shares]
      isplitl [Hd]; · iexact Hd
      unfold pay
      simp only [stp_nb]
      iexact HA
    · iapply (mono_univ fun r => held_loose gM c l (nb c r) (I.act l (nb c r)))
      iexact Hg
  isplitl [HB]
  · unfold pay
    iapply (mono_univ fun r => held_loose pM c l (nb c r) (I.par l (nb c r) c))
    iexact HB
  isplitl [Hr]
  · iapply (mono_univ fun p => held_loose rM c l p (I.par l c p))
    iexact Hr
  rw [bigSep_fin4]
  isplitl [H0]; · iexact H0
  isplitl [H1]; · iexact H1
  isplitl [H2]; · iexact H2
  iexact HR

/-- The sum stored as the next layer's own block. -/
theorem step_next (l : Fin 3) (v : Vec F S1x512x512 .bf16) (X : Vec F S1x64x512 .bf16) (hX : k0_pay16 v = X) (P : PR F) (Q : PUnit → sProp 𝕄) :
    (loose gM c l c : sProp 𝕄) ⊢ iprop((held gM c l c fullShare X -∗ WP c P Q) -∗ WP c (pNext l c v P) Q) := by
  subst hX
  unfold pNext
  iintro H HK
  iapply (wp_ldB_loose c gM (aSelfA l c)) $$ H
  iintro H
  iapply (wp_stB c gM gW (aSelfA l c)) $$ H
  iexact HK

/-- The first own block stored. -/
theorem step_first (P : PR F) (Q : PUnit → sProp 𝕄) :
    iprop(owns (c : Thread nD τ) xM fullShare (I.x c) ∗ loose gM c 0 c
      ∗ ((owns (c : Thread nD τ) xM fullShare (I.x c) ∗ held gM c 0 c fullShare (I.act 0 c)) -∗ WP c P Q)) ⊢ WP c (pFirst c P) Q := by
  unfold pFirst
  iintro ⟨Hx, H, HK⟩
  iapply (wp_ldW c xM fullShare _ z2 inb_S64x512_S64x512_0_0) $$ Hx
  iintro Hx
  iapply (wp_ldB_loose c gM (aSelfA 0 c)) $$ H
  iintro H
  iapply (wp_stB c gM gW (aSelfA 0 c)) $$ H
  iintro H
  iapply HK
  isplitl [Hx]; · iexact Hx
  iexact H

/-- The result stored. -/
theorem step_last (v : Vec F S1x512x512 .bf16) (P : PR F) (Q : PUnit → sProp 𝕄) :
    iprop(someW c oM ∗ (owns (c : Thread nD τ) oM fullShare (k0_pay45 v) -∗ WP c P Q)) ⊢ WP c (pLast v P) Q := by
  unfold pLast
  iintro ⟨H, HK⟩
  iapply (someW_ld c oM z2 inb_S64x512_S64x512_0_0) $$ H
  iintro H
  iapply (someW_st c oM (k0_pay45 v) z2 inb_S64x512_S64x512_0_0) $$ H
  iexact HK

end Cert.KernelIdeal.Talk
-- ==== Proof.Body.lean ====
module

public import proofs.«01_k».proof.Proof.Layer

@[expose] public section

noncomputable section

/-!
The whole program of a device: what it starts from and what it leaves.
-/

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
open Cert.KernelIdeal.Gen

variable {F : FTy → Type} [FloatOps F]

local notation "𝕄" => MT nD τ sig Unit (Elt F) ℕ UU ℕ

variable (I : Inp F) (K : Cell → ℕ) (c : Dev nD)

omit [FloatOps F] in
/-- The blocks of a buffer: the own ones and the peers', by layer. -/
theorem blocks_split (Φ : Fin 3 → Dev nD → sProp 𝕄) :
    (bigSep Finset.univ fun b : Fin 3 × Dev nD => Φ b.1 b.2)
      = iprop((bigSep Finset.univ fun l : Fin 3 => Φ l c) ∗ bigSep Finset.univ fun l : Fin 3 => bigSep Finset.univ fun r : Fin 7 => Φ l (nb c r)) := by
  rw [bigSep_univ_prod (fun b : Fin 3 × Dev nD => Φ b.1 b.2), ← bigSep_sep']
  exact bigSep_congr fun l _ => bigSep_dev c (Φ l)

omit [FloatOps F] in
/-- A device's semaphores: the barrier's, its own transfers' to itself (never used), its peers'. -/
theorem slots_split (Φ : Option Slot → sProp 𝕄) :
    bigSep Finset.univ Φ = iprop(Φ none ∗ (bigSep Finset.univ fun k : Fin 4 => bigSep Finset.univ fun l : Fin 3 => Φ (some (k, l, c)))
      ∗ bigSep Finset.univ fun k : Fin 4 => bigSep Finset.univ fun l : Fin 3 => bigSep Finset.univ fun r : Fin 7 => Φ (some (k, l, nb c r))) := by
  have h : (Finset.univ.erase none : Finset (Option Slot)) = Finset.univ.map Function.Embedding.some := by
    ext x
    cases x <;> simp
  rw [bigSep_univ_at Φ none, h, bigSep_map]
  congr 1
  rw [← bigSep_sep', bigSep_univ_prod]
  refine bigSep_congr fun k _ => ?_
  rw [← bigSep_sep', bigSep_univ_prod]
  exact bigSep_congr fun l _ => bigSep_dev c _

/-- A device's tokens for its transfers. -/
def toks : sProp 𝕄 :=
  iprop((bigSep Finset.univ fun l : Fin 3 => bigSep Finset.univ fun r : Fin 7 => tok c 0 l (nb c r))
    ∗ (bigSep Finset.univ fun l : Fin 3 => bigSep Finset.univ fun r : Fin 7 => tok (nb c r) 1 l c)
    ∗ (bigSep Finset.univ fun l : Fin 3 => bigSep Finset.univ fun r : Fin 7 => tok c 2 l (nb c r))
    ∗ (bigSep Finset.univ fun l : Fin 3 => bigSep Finset.univ fun r : Fin 7 => tok (nb c r) 3 l c))

/-- A device's credits for its transfers. -/
def crds : sProp 𝕄 :=
  iprop((bigSep Finset.univ fun l : Fin 3 => bigSep Finset.univ fun r : Fin 7 => crd c 1 l (nb c r))
    ∗ (bigSep Finset.univ fun l : Fin 3 => bigSep Finset.univ fun r : Fin 7 => crd c 3 l (nb c r)))

/-- The three exchanged buffers, each at some contents, by blocks. -/
def bufs : sProp 𝕄 :=
  iprop((bigSep Finset.univ fun b : Fin 3 × Dev nD => loose gM c b.1 b.2) ∗ (bigSep Finset.univ fun b : Fin 3 × Dev nD => loose pM c b.1 b.2)
    ∗ bigSep Finset.univ fun b : Fin 3 × Dev nD => loose rM c b.1 b.2)

/-- What every layer takes, from what the barrier brings. -/
theorem lay_intro :
    iprop((bigSep Finset.univ fun r : Fin 7 => pay I c (some none) (nb c r)) ∗ (bigSep Finset.univ fun l : Fin 3 => loose rM c l c)
      ∗ (bigSep Finset.univ fun l : Fin 3 => bigSep Finset.univ fun r : Fin 7 => loose pM c l (nb c r)) ∗ toks c ∗ crds c
      ∗ (bigSep Finset.univ fun k : Fin 4 => bigSep Finset.univ fun l : Fin 3 => bigSep Finset.univ fun r : Fin 7 => pos c k l (nb c r) 0))
      ⊢ iprop((bigSep Finset.univ fun l : Fin 3 => layPre c l) ∗ bigSep Finset.univ fun l : Fin 3 => drainPos c l) := by
  unfold layPre gatherRest stepPre waitPre drainPos toks crds pay
  simp only [bigSep_sep', bigSep_fin4]
  rw [bigSep_univ_comm (fun (r : Fin 7) (l : Fin 3) => loose gM (nb c r) l c), bigSep_univ_comm (fun (r : Fin 7) (l : Fin 3) => loose rM (nb c r) l c)]
  iintro ⟨⟨G, R⟩, Ro, Pm, ⟨T0, T1, T2, T3⟩, ⟨C1, C3⟩, P0, P1, P2, P3⟩
  isplitl [G R Ro Pm T0 T1 T2 T3 C1 C3 P1 P3]
  · isplitl [G T0 T1]
    · isplitl [G]; · iexact G
      isplitl [T0]; · iexact T0
      iexact T1
    isplitl [Ro]; · iexact Ro
    isplitl [R Pm T2 T3 C1 P1]
    · isplitl [C1]; · iexact C1
      isplitl [P1]; · iexact P1
      isplitl [Pm]; · iexact Pm
      isplitl [R]; · iexact R
      isplitl [T2]; · iexact T2
      iexact T3
    isplitl [C3]; · iexact C3
    iexact P3
  isplitl [P0]; · iexact P0
  iexact P2

/-- What the layers leave: the buffers whole again, the positions at the end. -/
theorem lay_elim :
    iprop((bigSep Finset.univ fun l : Fin 3 => layDone c l) ∗ bigSep Finset.univ fun l : Fin 3 => loose pM c l c)
      ⊢ (iprop(bufs c ∗ bigSep Finset.univ fun k : Fin 4 => bigSep Finset.univ fun l : Fin 3 => bigSep Finset.univ fun r : Fin 7 => pos c k l (nb c r) 1) : sProp 𝕄) := by
  unfold layDone bufs
  rw [blocks_split c (fun l p => loose pM c l p), bigSep_univ_prod (fun b : Fin 3 × Dev nD => loose gM c b.1 b.2),
    bigSep_univ_prod (fun b : Fin 3 × Dev nD => loose rM c b.1 b.2),
    bigSep_univ_comm (fun (k : Fin 4) (l : Fin 3) => bigSep Finset.univ fun r : Fin 7 => pos c k l (nb c r) 1)]
  simp only [bigSep_sep']
  iintro ⟨⟨G, Pm, R, H⟩, Po⟩
  isplitl [G Pm R Po]
  · isplitl [G]; · iexact G
    isplitl [Pm Po]
    · isplitl [Po]; · iexact Po
      iexact Pm
    iexact R
  iexact H

/-- A semaphore at the end of its rounds is closed: its counter is at zero. -/
theorem close_cell (x : Option Slot) (n : ℕ) (h : ∀ r, n ≤ r → (Rd I).duties (kcell (c, x)) r = ∅) :
    iprop(ctx I K ∗ atPos ER (kcell (c, x)) n ∅ 0) ⊢ (iprop(|={Set.univ}=> semVal (kcell (c, x)) 0) : sProp 𝕄) := by
  have h1 : iprop(ctx I K ∗ atPos ER (kcell (c, x)) n ∅ 0)
      ⊢ iprop(cellInv ER (Rd I) (K (c, x)) (kcell (c, x)) ∗ atPos ER (kcell (c, x)) n ∅ 0) := by
    iintro ⟨#HC, H⟩
    isplitr; · iapply (ctx_inv I K (c, x)); iexact HC
    iexact H
  exact h1.trans (Rounds.cell_close ER (Rd I) (Set.mem_univ (K (c, x))) (fun h => h) (R := n) h)

omit [FloatOps F] in
/-- The same for a family of semaphores. -/
theorem close_all {ι : Type} [Fintype ι] {C : sProp 𝕄} [BI.Persistent C] {Φ Ψ : ι → sProp 𝕄} (h : ∀ i, iprop(C ∗ Φ i) ⊢ iprop(|={Set.univ}=> Ψ i)) :
    iprop(C ∗ bigSep Finset.univ Φ) ⊢ (iprop(|={Set.univ}=> bigSep Finset.univ Ψ) : sProp 𝕄) := by
  classical
  have h1 : iprop(C ∗ bigSep Finset.univ Φ) ⊢ (bigSep Finset.univ fun i => iprop(C ∗ Φ i) : sProp 𝕄) := by
    rw [bigSep_sep']
    iintro ⟨#HC, H⟩
    isplitr
    · iapply (BI.bigSep_of_persistent Finset.univ C)
      iexact HC
    iexact H
  exact (h1.trans (mono_univ h)).trans (bigSep_fupd Finset.univ Ψ)

/-- All of a device's semaphores closed. -/
theorem close :
    iprop(ctx I K ∗ atPos ER (barCell c) 1 ∅ 0 ∗ (bigSep Finset.univ fun k : Fin 4 => bigSep Finset.univ fun l : Fin 3 => pos c k l c 0)
      ∗ bigSep Finset.univ fun k : Fin 4 => bigSep Finset.univ fun l : Fin 3 => bigSep Finset.univ fun r : Fin 7 => pos c k l (nb c r) 1)
      ⊢ (iprop(|={Set.univ}=> bigSep Finset.univ fun x : Option Slot => semVal (kcell (c, x)) 0) : sProp 𝕄) := by
  rw [slots_split c]
  iintro ⟨#HC, HB, HO, HP⟩
  imod (close_cell I K c none 1 (duties_later I _)) $$ [HB] with HB
  · isplitr; · iexact HC
    iexact HB
  imod (close_all (C := ctx I K) fun k => close_all (C := ctx I K) fun l => close_cell I K c (some (k, l, c)) 0 fun r _ => duties_own I c k l r) $$ [HO] with HO
  · isplitr; · iexact HC
    iexact HO
  imod (close_all (C := ctx I K) fun k => close_all (C := ctx I K) fun l => close_all (C := ctx I K) fun r => close_cell I K c (some (k, l, nb c r)) 1 (duties_later I _)) $$ [HP] with HP
  · isplitr; · iexact HC
    iexact HP
  imodintro
  isplitl [HB]; · iexact HB
  isplitl [HO]; · iexact HO
  iexact HP

/-- What a device starts from, besides its staged inputs and its result's place, -/
def bodyPre : sProp 𝕄 :=
  iprop(someW c wiM ∗ someW c woM ∗ bufs c ∗ cred (tallyAt (barCell c) () 7) ∗ crds c
    ∗ (bigSep Finset.univ fun x : Option Slot => atPos ER (kcell (c, x)) 0 ∅ 0)
    ∗ (bigSep Finset.univ fun r : Fin 7 => dutyTok ER (barCell (nb c r)) 0 c) ∗ toks c)
/-- and what it leaves. -/
def bodyPost : sProp 𝕄 :=
  iprop(someW c wiM ∗ someW c woM ∗ bufs c ∗ bigSep Finset.univ fun x : Option Slot => semVal (kcell (c, x)) 0)

/-- The staged inputs. -/
def staged : sProp 𝕄 := iprop(owns (c : Thread nD τ) xM fullShare (I.x c) ∗ bigSep Finset.univ fun l : Fin 3 => stagedW I c l)

theorem wp_dev (k : Dev nD → PR F) (Q : PUnit → sProp 𝕄) : WP c (.op .deviceId k) Q = WP c (k c) Q :=
  wp_deviceId ..

theorem wp_done (Q : PUnit → sProp 𝕄) : WP (F := F) c (.ret ⟨⟩) Q = iprop(|={Set.univ}=> Q ⟨⟩) := by
  unfold WP
  rw [wp_ret]

/-- **A device's program is sound.** From its inputs it leaves its block of the result, pays all it owes and
    ends with its buffers and semaphores. -/
theorem sound (Q : PUnit → sProp 𝕄) :
    iprop(ctx I K ∗ ow c 0 ∗ staged I c ∗ someW c oM ∗ bodyPre c
      ∗ ((ow c 49 ∗ staged I c ∗ owns (c : Thread nD τ) oM fullShare (I.res c) ∗ bodyPost c) -∗ Q ⟨⟩)) ⊢ WP c (pAll (F := F)) Q := by
  unfold pAll pMain staged bodyPre bufs
  rw [wp_dev, slots_split c, blocks_split c (fun l p => loose gM c l p), blocks_split c (fun l p => loose pM c l p),
    blocks_split c (fun l p => loose rM c l p)]
  iintro ⟨#HC, HO, ⟨Hx, Hw⟩, Hout, ⟨Hwi, Hwo, ⟨⟨Go, Gp⟩, ⟨Po, Pp⟩, Ro, Rp⟩, Hcb, Hcr, ⟨HaB, HaO, HaP⟩, HtB, Ht⟩, HK⟩
  iapply (wp_each c (pSignal c) (ctx I K) (fun n => ow c n) (fun r => iprop(dutyTok ER (barCell (nb c r)) 0 c ∗ pay I (nb c r) (some none) c)) (fun _ => iprop(emp))
    (fun r P Q => step_signal I K c r P Q))
  isplitr; · iexact HC
  isplitl [HO]; · iexact HO
  isplitl [HtB Gp Rp]
  · rw [bigSep_sep']
    isplitl [HtB]; · iexact HtB
    unfold pay
    rw [bigSep_sep', bigSep_univ_comm (fun (r : Fin 7) (l : Fin 3) => loose gM c l (nb c r)), bigSep_univ_comm (fun (r : Fin 7) (l : Fin 3) => loose rM c l (nb c r))]
    isplitl [Gp]; · iexact Gp
    iexact Rp
  iintro ⟨HO, -⟩
  iapply (step_barrier I K c)
  isplitr; · iexact HC
  isplitl [HO]; · iexact HO
  isplitl [Hcb]; · iexact Hcb
  isplitl [HaB]; · iexact HaB
  iintro ⟨HO, HaB, Hlent⟩
  ihave Hlay := (lay_intro I c) $$ [Hlent Ro Pp Ht Hcr HaP]
  · isplitl [Hlent]; · iexact Hlent
    isplitl [Ro]; · iexact Ro
    isplitl [Pp]; · iexact Pp
    isplitl [Ht]; · iexact Ht
    isplitl [Hcr]; · iexact Hcr
    iexact HaP
  ihave Hlay := (Entails.of_eq (congrArg₂ (fun a b : sProp 𝕄 => iprop(a ∗ b)) (bigSep_fin3 fun l => layPre c l) (bigSep_fin3 fun l => drainPos c l))) $$ Hlay
  icases Hlay with ⟨⟨L0, L1, L2⟩, D0, D1, D2⟩
  ihave Go := (Entails.of_eq (bigSep_fin3 fun l => loose gM c l c)) $$ Go
  icases Go with ⟨G0, G1, G2⟩
  ihave Hw := (Entails.of_eq (bigSep_fin3 fun l => stagedW I c l)) $$ Hw
  icases Hw with ⟨W0, W1, W2⟩
  iapply (step_first I c)
  isplitl [Hx]; · iexact Hx
  isplitl [G0]; · iexact G0
  iintro ⟨Hx, G0⟩
  iapply (wp_layer I K c 0)
  isplitr; · iexact HC
  isplitl [HO]; · iexact HO
  isplitl [G0]; · iexact G0
  isplitl [W0]; · iexact W0
  isplitl [Hwi]; · iexact Hwi
  isplitl [Hwo]; · iexact Hwo
  isplitl [L0]; · iexact L0
  iintro ⟨HO, W0, Hwi, Hwo, L0⟩
  iapply (step_next c 1 _ (I.act 1 c) rfl) $$ G1
  iintro G1
  iapply (wp_layer I K c 1)
  isplitr; · iexact HC
  isplitl [HO]; · iexact HO
  isplitl [G1]; · iexact G1
  isplitl [W1]; · iexact W1
  isplitl [Hwi]; · iexact Hwi
  isplitl [Hwo]; · iexact Hwo
  isplitl [L1]; · iexact L1
  iintro ⟨HO, W1, Hwi, Hwo, L1⟩
  iapply (step_next c 2 _ (I.act 2 c) rfl) $$ G2
  iintro G2
  iapply (wp_layer I K c 2)
  isplitr; · iexact HC
  isplitl [HO]; · iexact HO
  isplitl [G2]; · iexact G2
  isplitl [W2]; · iexact W2
  isplitl [Hwi]; · iexact Hwi
  isplitl [Hwo]; · iexact Hwo
  isplitl [L2]; · iexact L2
  iintro ⟨HO, W2, Hwi, Hwo, L2⟩
  iapply (step_last c)
  isplitl [Hout]; · iexact Hout
  iintro Hout
  iapply (wp_drain I K c 0)
  isplitr; · iexact HC
  isplitl [HO]; · iexact HO
  isplitl [L0]; · iexact L0
  isplitl [D0]; · iexact D0
  iintro ⟨HO, L0⟩
  iapply (wp_drain I K c 1)
  isplitr; · iexact HC
  isplitl [HO]; · iexact HO
  isplitl [L1]; · iexact L1
  isplitl [D1]; · iexact D1
  iintro ⟨HO, L1⟩
  iapply (wp_drain I K c 2)
  isplitr; · iexact HC
  isplitl [HO]; · iexact HO
  isplitl [L2]; · iexact L2
  isplitl [D2]; · iexact D2
  iintro ⟨HO, L2⟩
  ihave Hend := (lay_elim c) $$ [L0 L1 L2 Po]
  · rw [bigSep_fin3 fun l => layDone c l]
    isplitl [L0 L1 L2]
    · isplitl [L0]; · iexact L0
      isplitl [L1]; · iexact L1
      iexact L2
    iexact Po
  icases Hend with ⟨Hb, HaP⟩
  rw [wp_done]
  imod (close I K c) $$ [HaB HaO HaP] with Hz
  · isplitr; · iexact HC
    isplitl [HaB]; · iexact HaB
    isplitl [HaO]; · iexact HaO
    iexact HaP
  imodintro
  iapply HK
  isplitl [HO]; · iexact HO
  isplitl [Hx W0 W1 W2]
  · isplitl [Hx]; · iexact Hx
    rw [bigSep_fin3 fun l => stagedW I c l]
    isplitl [W0]; · iexact W0
    isplitl [W1]; · iexact W1
    iexact W2
  isplitl [Hout]; · iexact Hout
  unfold bodyPost
  isplitl [Hwi]; · iexact Hwi
  isplitl [Hwo]; · iexact Hwo
  isplitl [Hb]; · iexact Hb
  iexact Hz

end Cert.KernelIdeal.Talk
-- ==== Proof.Ghost.lean ====
module

public import proofs.«01_k».proof.Proof.Body

@[expose] public section

noncomputable section

/-!
What the launch mints and deals: the semaphores' invariants under common names, and each token to the
device that pays with it; and the credits a device is owed.
-/

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
open Cert.KernelIdeal.Gen

variable {F : FTy → Type} [FloatOps F]

local notation "𝕄" => MT nD τ sig Unit (Elt F) ℕ UU ℕ

variable (I : Inp F)

/-- The semaphores of the exchange, of all devices. -/
def allCells : Finset (GSem nD τ sig) := Finset.univ.map ⟨kcell, kcell_injective⟩

/-- The duties of a device's own semaphores: of its barrier, one for each peer; of each transfer semaphore
    of a peer, one. -/
abbrev Duty := Dev nD × Fin 7 × Option (Fin 4 × Fin 3)
abbrev tokOf (x : Duty) : GSem nD τ sig × ℕ × Dev nD :=
  (kcell (x.1, x.2.2.map fun y => (y.1, y.2, nb x.1 x.2.1)), 0, match x.2.2 with | none => nb x.1 x.2.1 | some _ => 0)

theorem tokOf_injective : Function.Injective tokOf := by
  rintro ⟨c, r, x⟩ ⟨c', r', x'⟩ h
  have h1 := kcell_injective (congrArg Prod.fst h)
  have h2 := congrArg (fun y => y.2.2) h
  obtain rfl : c = c' := congrArg Prod.fst h1
  have h3 := congrArg Prod.snd h1
  cases x with
  | none => cases x' with
    | none =>
      have h5 : nb c r = nb c r' := h2
      obtain rfl := nb_inj c h5; rfl
    | some y' => exact absurd h3 (by simp)
  | some y => cases x' with
    | none => exact absurd h3 (by simp)
    | some y' =>
      have h4 : (y.1, y.2, nb c r) = (y'.1, y'.2, nb c r') := Option.some.inj h3
      have e1 : y.1 = y'.1 := (Prod.mk.inj h4).1
      have e2 : y.2 = y'.2 := (Prod.mk.inj (Prod.mk.inj h4).2).1
      have e3 : nb c r = nb c r' := (Prod.mk.inj (Prod.mk.inj h4).2).2
      obtain rfl := nb_inj c e3
      obtain rfl := Prod.ext e1 e2
      rfl

def allToks : Finset (GSem nD τ sig × ℕ × Dev nD) := Finset.univ.map ⟨tokOf, tokOf_injective⟩

/-- The launch's ghost element. -/
def u₀ : UU :=
  (initOf (Pipeline.cells cfgs cellOf_inj) (Pipeline.launchToks cfgs cellOf_inj), initOf allCells allToks)

/-- The tokens of a device's own semaphores. -/
def ownToks (c : Dev nD) : sProp 𝕄 :=
  bigSep Finset.univ fun y : Fin 7 × Option (Fin 4 × Fin 3) => dutyTok ER (tokOf (c, y)).1 (tokOf (c, y)).2.1 (tokOf (c, y)).2.2

/-- A device's share of what is minted. -/
def dealt (c : Dev nD) : sProp 𝕄 :=
  iprop((bigSep Finset.univ fun x : Option Slot => roundState ER (Rd I) (kcell (c, x)) 0)
    ∗ (bigSep Finset.univ fun x : Option Slot => iprop(atPos ER (kcell (c, x)) 0 ∅ 0 ∗ reached ER (kcell (c, x)) 0)) ∗ ownToks c)

/-- The minted element is dealt. -/
theorem fund_all : BI.own (ER (initOf allCells allToks)) ⊢ (|==> bigSep Finset.univ (dealt I) : sProp 𝕄) := by
  have hX (Φ : GSem nD τ sig → sProp 𝕄) : bigSep allCells Φ = bigSep Finset.univ fun c : Dev nD => bigSep Finset.univ fun x : Option Slot => Φ (kcell (c, x)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]; rfl
  iintro HX
  imod (Rounds.fund ER (Rd I) allCells allToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat']; · iexact Hat'
    iexact Hr'
  iexact Htok'

/-! ### The semaphores -/

/-- The kernel's own semaphores: the transfers'. -/
abbrev osem : Slot → SemLoc sig := fun b => csem (some b)

theorem ownSemFacts : Pipeline.OwnSemFacts cfg0.spec osem :=
  ⟨by decide +kernel, fun a b h => Option.some.inj (csem_injective h), by decide +kernel⟩

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

omit [FloatOps F] in
/-- A device's semaphores at zero are the kernel's own and the barrier. -/
theorem sems0_eq (c : Dev nD) :
    (bigSep Finset.univ fun x : Option Slot => semVal (kcell (c, x)) 0 : sProp 𝕄)
      = iprop(unscopedSems0 c ∗ Pipeline.ownSems0 (Ix := Unit) (Name := ℕ) (U := UU) (Lvl := ℕ) (Val := Elt F) (τ := τ) osem c) := by
  have h : (Finset.univ.erase none : Finset (Option Slot)) = Finset.univ.map Function.Embedding.some := by
    ext x
    cases x <;> simp
  rw [bigSep_univ_at _ none, h, bigSep_map, unscopedSems0_eq]
  rfl

/-! ### The global step -/

/-- A device's invariants, each under some name. -/
theorem core_alloc (c : Dev nD) :
    iprop(Pipeline.ownSems0 (Ix := Unit) (Name := ℕ) (U := UU) (Lvl := ℕ) (Val := Elt F) (τ := τ) osem c ∗ unscopedSems0 c ∗ dealt I c)
      ⊢ |={Set.univ}=> iprop((bigSep Finset.univ fun x : Option Slot => iprop(∃ κ : ℕ, cellInv ER (Rd I) κ (kcell (c, x))))
          ∗ (bigSep Finset.univ fun x : Option Slot => iprop(atPos ER (kcell (c, x)) 0 ∅ 0 ∗ reached ER (kcell (c, x)) 0)) ∗ ownToks c) := by
  unfold dealt
  iintro ⟨Hos, Hus, Hst, Hat, Htok⟩
  imod (show iprop((bigSep Finset.univ fun x : Option Slot => semVal (kcell (c, x)) 0) ∗ bigSep Finset.univ fun x : Option Slot => roundState ER (Rd I) (kcell (c, x)) 0)
      ⊢ (|={Set.univ}=> bigSep Finset.univ fun x => iprop(∃ κ : ℕ, cellInv ER (Rd I) κ (kcell (c, x))) : sProp 𝕄) from by
        rw [← bigSep_sep']
        exact (bigSep_mono fun x _ => (Rounds.body_intro ER (Rd I) (kcell (c, x))).trans inv_alloc).trans (bigSep_fupd _ _)) $$ [Hos Hus Hst] with Hinv
  · isplitr [Hst]
    · rw [sems0_eq]
      isplitl [Hus]; · iexact Hus
      iexact Hos
    iexact Hst
  imodintro
  isplitl [Hinv]; · iexact Hinv
  isplitl [Hat]; · iexact Hat
  iexact Htok

/-- What is common to all devices. -/
def records (K : Cell → ℕ) : sProp 𝕄 :=
  iprop((bigSep Finset.univ fun ck : Cell => cellInv ER (Rd I) (K ck) (kcell ck)) ∗ bigSep Finset.univ fun ck : Cell => reached ER (kcell ck) 0)

instance records_persistent (K : Cell → ℕ) : BI.Persistent (records I K) := by unfold records; infer_instance

/-- What a device keeps to itself: its positions and the tokens it pays with. -/
def linear (c : Dev nD) : sProp 𝕄 :=
  iprop((bigSep Finset.univ fun x : Option Slot => atPos ER (kcell (c, x)) 0 ∅ 0)
    ∗ (bigSep Finset.univ fun r : Fin 7 => dutyTok ER (barCell (nb c r)) 0 c) ∗ toks c)

/-- What a device starts from, of this. -/
def begun (c : Dev nD) : sProp 𝕄 := iprop((∃ K, records I K) ∗ linear c)

omit [FloatOps F] in
/-- The tokens of a device's own semaphores, named. -/
theorem ownToks_eq (c : Dev nD) : (ownToks c : sProp 𝕄)
    = iprop((bigSep Finset.univ fun r : Fin 7 => dutyTok ER (barCell c) 0 (nb c r))
      ∗ bigSep Finset.univ fun k : Fin 4 => bigSep Finset.univ fun l : Fin 3 => bigSep Finset.univ fun r : Fin 7 => tok c k l (nb c r)) := by
  have h : (Finset.univ.erase none : Finset (Option (Fin 4 × Fin 3))) = Finset.univ.map Function.Embedding.some := by
    ext x
    cases x <;> simp
  unfold ownToks
  rw [bigSep_univ_prod, bigSep_univ_comm]
  rw [bigSep_univ_at _ none, h, bigSep_map, bigSep_univ_prod]
  rfl

omit [FloatOps F] in
/-- Each transfer token at its receiver, dealt to the sender. -/
theorem deal (k : Fin 4) :
    (bigSep Finset.univ fun c : Dev nD => bigSep Finset.univ fun l : Fin 3 => bigSep Finset.univ fun r : Fin 7 => (tok c k l (nb c r) : sProp 𝕄))
      = bigSep Finset.univ fun c : Dev nD => bigSep Finset.univ fun l : Fin 3 => bigSep Finset.univ fun r : Fin 7 => tok (nb c r) k l c := by
  rw [bigSep_univ_comm, bigSep_univ_comm (fun (c : Dev nD) (l : Fin 3) => bigSep Finset.univ fun r : Fin 7 => (tok (nb c r) k l c : sProp 𝕄))]
  exact bigSep_congr fun l _ => bigSep_swap (fun a b => tok a k l b)

omit [FloatOps F] in
/-- All tokens dealt to those that pay with them. -/
theorem toks_deal : (bigSep Finset.univ fun c : Dev nD => (ownToks c : sProp 𝕄))
    = bigSep Finset.univ fun c : Dev nD => iprop((bigSep Finset.univ fun r : Fin 7 => dutyTok ER (barCell (nb c r)) 0 c) ∗ toks c) := by
  unfold toks
  simp only [ownToks_eq, bigSep_fin4, bigSep_sep']
  rw [bigSep_swap (fun a b => dutyTok ER (barCell a) 0 b), deal 1, deal 3]

theorem regroup :
    (bigSep Finset.univ fun c : Dev nD => iprop((bigSep Finset.univ fun x : Option Slot => iprop(∃ κ : ℕ, cellInv ER (Rd I) κ (kcell (c, x))))
          ∗ (bigSep Finset.univ fun x : Option Slot => iprop(atPos ER (kcell (c, x)) 0 ∅ 0 ∗ reached ER (kcell (c, x)) 0)) ∗ ownToks c) : sProp 𝕄)
      ⊢ bigSep Finset.univ (begun I) := by
  have e : (bigSep Finset.univ fun c : Dev nD => begun I c : sProp 𝕄)
      = iprop((bigSep Finset.univ fun _ : Dev nD => iprop(∃ K, records I K)) ∗ (bigSep Finset.univ fun c : Dev nD => bigSep Finset.univ fun x : Option Slot => atPos ER (kcell (c, x)) 0 ∅ 0)
        ∗ bigSep Finset.univ fun c : Dev nD => ownToks c) := by
    rw [toks_deal]
    unfold begun linear
    rw [bigSep_sep', bigSep_sep']
  have e' : (bigSep Finset.univ (begun I) : sProp 𝕄) = bigSep Finset.univ fun c : Dev nD => begun I c := rfl
  rw [e', e, bigSep_sep', bigSep_sep', ← bigSep_univ_prod (fun ck : Cell => iprop(∃ κ : ℕ, cellInv ER (Rd I) κ (kcell ck))),
    bigSep_congr (s := Finset.univ) (fun (c : Dev nD) _ => bigSep_sep' Finset.univ (fun x : Option Slot => (atPos ER (kcell (c, x)) 0 ∅ 0 : sProp 𝕄)) (fun x => reached ER (kcell (c, x)) 0)),
    bigSep_sep', ← bigSep_univ_prod (fun ck : Cell => (reached ER (kcell ck) 0 : sProp 𝕄))]
  iintro ⟨HI, ⟨Hat, #HR⟩, Htok⟩
  ihave HK := (BI.bigSep_exists_pi Finset.univ (fun (ck : Cell) (κ : ℕ) => (cellInv ER (Rd I) κ (kcell ck) : sProp 𝕄))) $$ HI
  icases HK with ⟨%K, #HI⟩
  isplitr
  · iapply ((BI.bigSep_of_persistent Finset.univ (records I K)).trans (mono_univ fun _ : Dev nD => show records I K ⊢ iprop(∃ K, records I K) from by
      iintro H; iexists K; iexact H))
    unfold records
    isplitl; · iexact HI
    iexact HR
  isplitl [Hat]; · iexact Hat
  iexact Htok

/-- The global step of the launch. -/
theorem glob : (bigSep Finset.univ fun c => iprop(Pipeline.ownSems0 (Ix := Unit) (Name := ℕ) (U := UU) (Lvl := ℕ) (Val := Elt F) (τ := τ) osem c ∗ unscopedSems0 c ∗ dealt I c) : sProp 𝕄)
    ⊢ |={Set.univ}=> bigSep Finset.univ (begun I) :=
  ((bigSep_mono fun c _ => core_alloc I c).trans (bigSep_fupd _ _)).trans (BI.fupd_mono (regroup I))

/-! ### The credits -/

/-- What a device owes at first. -/
abbrev O₀ (c : Dev nD) : CellTallies nD τ sig Unit := owed c 0

omit [FloatOps F] in
theorem owed_at (d c : Dev nD) (x : Option Slot) :
    O₀ d (kcell (c, x)) () = ∑ j ∈ Finset.Ico 0 49, if payCell d j = (c, x) then payAmt (payIx j).2 else 0 := by
  unfold O₀ owed
  rw [Finset.sum_apply, Finsupp.finset_sum_apply]
  refine Finset.sum_congr rfl fun j _ => ?_
  rw [tallyAt_apply]
  by_cases h : payCell d j = (c, x)
  · rw [if_pos ⟨by rw [h], rfl⟩, if_pos h]
  · rw [if_neg (fun hh => h (kcell_injective hh.1.symm)), if_neg h]

theorem count_bar : ∀ c : Dev nD, (∑ d : Dev nD, ∑ j ∈ Finset.Ico 0 49, if payCell d j = (c, none) then payAmt (payIx j).2 else 0) = 7 := by
  have h : ∀ c : Dev nD, (∑ d : Dev nD, ∑ j ∈ Finset.Ico 0 49, if nb d (payIx j).1 = c ∧ (payIx j).2 = none then 1 else 0) = 7 := by decide +kernel
  intro c
  refine Eq.trans (Finset.sum_congr rfl fun d _ => ?_) (h c)
  refine Finset.sum_congr rfl fun j _ => ?_
  unfold payCell paySlot payAmt
  rcases payIx j with ⟨r, _ | y⟩ <;> simp

theorem count_one (k : Fin 4) (hk : k = 1 ∨ k = 3) (r : Fin 7) (l : Fin 3) :
    (∑ j ∈ Finset.Ico 0 49, if payIx j = (r, some (k, l)) then 1 else 0) = 1 := by
  have h : ∀ (r : Fin 7) (l : Fin 3),
    (∑ j ∈ Finset.Ico 0 49, if (payIx j) = (r, some ((1 : Fin 4), l)) then 1 else 0) = 1
    ∧ (∑ j ∈ Finset.Ico 0 49, if (payIx j) = (r, some ((3 : Fin 4), l)) then 1 else 0) = 1 := by decide +kernel
  rcases hk with rfl | rfl
  · exact (h r l).1
  · exact (h r l).2

theorem payCell_iff (d c : Dev nD) (r : Fin 7) (k : Fin 4) (l : Fin 3) (j : ℕ) :
    payCell d j = (c, some (k, l, nb c r)) ↔ d = nb c r ∧ payIx j = (rv r, some (k, l)) := by
  unfold payCell paySlot
  rcases payIx j with ⟨i, _ | ⟨k', l'⟩⟩
  · simp
  · constructor
    · intro h
      obtain ⟨h1, h2⟩ := Prod.mk.inj h
      obtain ⟨h3, h4⟩ := Prod.mk.inj (Option.some.inj h2)
      obtain ⟨h5, h6⟩ := Prod.mk.inj h4
      have h3' : k' = k := h3
      have h5' : l' = l := h5
      have h6' : d = nb c r := h6
      subst h3' h5' h6'
      refine ⟨rfl, ?_⟩
      have h1' : nb (nb c r) i = c := h1
      rw [nb_inj (nb c r) (h1'.trans (nb_nb c r).symm)]
    · rintro ⟨rfl, h⟩
      obtain ⟨h1, h2⟩ := Prod.mk.inj h
      obtain ⟨h3, h4⟩ := Prod.mk.inj (Option.some.inj h2)
      subst h1 h3 h4
      show (nb (nb c r) (rv r), _) = _
      rw [nb_nb]; rfl

omit [FloatOps F] in
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_at d c none, count_bar]

omit [FloatOps F] in
theorem launch_d (c : Dev nD) (k : Fin 4) (hk : k = 1 ∨ k = 3) (l : Fin 3) (r : Fin 7) :
    tallyOn (dcell c k l (nb c r)) (launchCredit (Pipeline.owing O₀) 0 (dcell c k l (nb c r))) = (tallyAt (dcell c k l (nb c r)) () N0 : CellTallies nD τ sig Unit) := by
  unfold tallyAt; refine congrArg _ (Finsupp.ext fun u => ?_); cases u
  rw [Pipeline.launchCredit_owing, Finsupp.single_eq_same, Finset.sum_congr rfl fun d _ => owed_at d c (some (k, l, nb c r)),
    Finset.sum_eq_single (nb c r)]
  · rw [← Nat.mul_one N0, ← count_one k hk (rv r) l, Finset.mul_sum]
    refine Finset.sum_congr rfl fun j _ => ?_
    by_cases h : payIx j = (rv r, some (k, l))
    · rw [if_pos ((payCell_iff (nb c r) c r k l j).mpr ⟨rfl, h⟩), if_pos h, h]; exact (Nat.mul_one _).symm
    · rw [if_neg (fun hh => h ((payCell_iff (nb c r) c r k l j).mp hh).2), if_neg h]; rfl
  · intro d _ hd
    exact Finset.sum_eq_zero fun j _ => if_neg fun hh => hd ((payCell_iff d c r k l j).mp hh).1
  · intro h; exact absurd (Finset.mem_univ _) h

omit [FloatOps F] in
/-- The credits a device is launched with. -/
theorem creds (c : Dev nD) :
    (Pipeline.launchCred O₀ c : sProp 𝕄) ⊢ iprop(cred (tallyAt (barCell c) () 7) ∗ crds c) := by
  have h1 : (Pipeline.launchCred O₀ c : sProp 𝕄) ⊢ bigSep Finset.univ fun x : Option Slot =>
      cred (tallyOn (kcell (c, x)) (launchCredit (Pipeline.owing O₀) 0 (kcell (c, x)))) := by
    unfold Pipeline.launchCred
    refine (bigSep_subset (Finset.subset_univ (Finset.univ.map ⟨csem, csem_injective⟩))).trans ?_
    rw [bigSep_map]; exact fun _ h => h
  refine h1.trans ?_
  have h2 (k : Fin 4) (hk : k = 1 ∨ k = 3) : (bigSep Finset.univ fun l : Fin 3 => bigSep Finset.univ fun r : Fin 7 =>
      (cred (tallyOn (kcell (c, some (k, l, nb c r))) (launchCredit (Pipeline.owing O₀) 0 (kcell (c, some (k, l, nb c r))))) : sProp 𝕄))
      = bigSep Finset.univ fun l : Fin 3 => bigSep Finset.univ fun r : Fin 7 => crd c k l (nb c r) :=
    bigSep_congr fun l _ => bigSep_congr fun r _ => congrArg _ (launch_d c k hk l r)
  have h4 (Φ : Fin 4 → sProp 𝕄) : bigSep Finset.univ Φ ⊢ iprop(Φ 1 ∗ Φ 3) := by
    rw [bigSep_fin4]
    iintro ⟨-, H1, -, H3⟩
    isplitl [H1]; · iexact H1
    iexact H3
  rw [slots_split c]
  refine (sep_mono_right (sep_mono_right (h4 _))).trans ?_
  rw [h2 1 (.inl rfl), h2 3 (.inr rfl), show (cred (tallyOn (kcell (c, none)) (launchCredit (Pipeline.owing O₀) 0 (kcell (c, none)))) : sProp 𝕄)
    = cred (tallyAt (barCell c) () 7) from congrArg _ (launch_bar c)]
  unfold crds
  iintro ⟨Hb, -, H1, H3⟩
  isplitl [Hb]; · iexact Hb
  isplitl [H1]; · iexact H1
  iexact H3

end Cert.KernelIdeal.Talk
-- ==== Proof.Launch.lean ====
module

public import proofs.«01_k».proof.Proof.Ghost
public import proofs.«01_k».proof.Proof.Gen.KernelIdeal.Frame
public import Idealize.ShloMosaic.Lib.Pipeline.CollectiveSegs

@[expose] public section

noncomputable section

/-!
The kernel launched on all devices: it terminates, the result is computed, all else is left as it was.
-/

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

/-- The inputs, as the devices hold them. -/
def inp : Inp F where
  x c := iblk m c 0 t0_0
  wi l c := match l with
    | 0 => iblk m c 1 t0_0
    | 1 => iblk m c 3 t0_0
    | 2 => iblk m c 5 t0_0
  wo l c := match l with
    | 0 => iblk m c 2 t0_0
    | 1 => iblk m c 4 t0_0
    | 2 => iblk m c 6 t0_0

/-- What a device starts from, its working buffers aside. -/
def start (c : Dev nD) : sProp 𝕄 :=
  iprop((∃ K, ctx (inp m) K) ∗ cred (tallyAt (barCell c) () 7) ∗ crds c ∗ linear c)

def Φ₀ (c : Dev nD) : sProp 𝕄 := iprop(start m c ∗ someW c wiM ∗ someW c woM ∗ bufs c)
def Φ₁ (c : Dev nD) : sProp 𝕄 := bodyPost c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).wi 0 c
    | ⟨2, _⟩ => (inp m).wo 0 c
    | ⟨3, _⟩ => (inp m).wi 1 c
    | ⟨4, _⟩ => (inp m).wo 1 c
    | ⟨5, _⟩ => (inp m).wi 2 c
    | ⟨6, _⟩ => (inp m).wo 2 c
    | ⟨7, _⟩ => (inp m).res c
  Φ t := match t with
    | ⟨0, _⟩ => Φ₀ m c
    | ⟨_ + 1, _⟩ => Φ₁ c
  q _ := fullShare
  owed t := match t with
    | ⟨0, _⟩ => O₀ c
    | ⟨_ + 1, _⟩ => 0

theorem before_0 (c : Dev nD) (d) : (dats (F := F) m ρ 0 c).before (0 : Fin 8) t0_0 d = (inp m).x c := by
  unfold Dat.before; rw [if_pos (fetch0_0 _)]; rfl
theorem before_1 (c : Dev nD) (d) : (dats (F := F) m ρ 0 c).before (1 : Fin 8) t0_0 d = (inp m).wi 0 c := by
  unfold Dat.before; rw [if_pos (fetch0_1 _)]; rfl
theorem before_2 (c : Dev nD) (d) : (dats (F := F) m ρ 0 c).before (2 : Fin 8) t0_0 d = (inp m).wo 0 c := by
  unfold Dat.before; rw [if_pos (fetch0_2 _)]; rfl
theorem before_3 (c : Dev nD) (d) : (dats (F := F) m ρ 0 c).before (3 : Fin 8) t0_0 d = (inp m).wi 1 c := by
  unfold Dat.before; rw [if_pos (fetch0_3 _)]; rfl
theorem before_4 (c : Dev nD) (d) : (dats (F := F) m ρ 0 c).before (4 : Fin 8) t0_0 d = (inp m).wo 1 c := by
  unfold Dat.before; rw [if_pos (fetch0_4 _)]; rfl
theorem before_5 (c : Dev nD) (d) : (dats (F := F) m ρ 0 c).before (5 : Fin 8) t0_0 d = (inp m).wi 2 c := by
  unfold Dat.before; rw [if_pos (fetch0_5 _)]; rfl
theorem before_6 (c : Dev nD) (d) : (dats (F := F) m ρ 0 c).before (6 : Fin 8) t0_0 d = (inp m).wo 2 c := by
  unfold Dat.before; rw [if_pos (fetch0_6 _)]; rfl

set_option maxRecDepth 4000 in
def preOb (c : Dev nD) : sProp 𝕄 :=
  iprop(Φ₀ m c ∗ (dats m ρ 0 c).owesAt () t0_0.castSucc
    ∗ (∃ d, owns (c : Thread nD τ) xM fullShare ((dats m ρ 0 c).before (0 : Fin 8) t0_0 d))
    ∗ (∃ d, owns (c : Thread nD τ) (winM 0) fullShare ((dats m ρ 0 c).before (1 : Fin 8) t0_0 d))
    ∗ (∃ d, owns (c : Thread nD τ) (woutM 0) fullShare ((dats m ρ 0 c).before (2 : Fin 8) t0_0 d))
    ∗ (∃ d, owns (c : Thread nD τ) (winM 1) fullShare ((dats m ρ 0 c).before (3 : Fin 8) t0_0 d))
    ∗ (∃ d, owns (c : Thread nD τ) (woutM 1) fullShare ((dats m ρ 0 c).before (4 : Fin 8) t0_0 d))
    ∗ (∃ d, owns (c : Thread nD τ) (winM 2) fullShare ((dats m ρ 0 c).before (5 : Fin 8) t0_0 d))
    ∗ (∃ d, owns (c : Thread nD τ) (woutM 2) fullShare ((dats m ρ 0 c).before (6 : Fin 8) t0_0 d))
    ∗ (∃ d, owns (c : Thread nD τ) oM fullShare ((dats m ρ 0 c).before (7 : Fin 8) t0_0 d)))
set_option maxRecDepth 4000 in
def postOb (c : Dev nD) : sProp 𝕄 :=
  iprop(Φ₁ c ∗ (dats m ρ 0 c).owesAt () t0_0.succ
    ∗ owns (c : Thread nD τ) xM fullShare ((inp m).x c)
    ∗ owns (c : Thread nD τ) (winM 0) fullShare ((inp m).wi 0 c)
    ∗ owns (c : Thread nD τ) (woutM 0) fullShare ((inp m).wo 0 c)
    ∗ owns (c : Thread nD τ) (winM 1) fullShare ((inp m).wi 1 c)
    ∗ owns (c : Thread nD τ) (woutM 1) fullShare ((inp m).wo 1 c)
    ∗ owns (c : Thread nD τ) (winM 2) fullShare ((inp m).wi 2 c)
    ∗ owns (c : Thread nD τ) (woutM 2) fullShare ((inp m).wo 2 c)
    ∗ owns (c : Thread nD τ) oM fullShare ((inp m).res c))

/-- The body, from what the pipeline hands it to what it returns. -/
theorem ob (c : Dev nD) : preOb m ρ c ⊢ WP c (pAll (F := F)) (fun _ => postOb m ρ c) := by
  unfold preOb postOb Φ₀ Φ₁ start linear Dat.owesAt Pipeline.owesWithin
  rw [show (dats m ρ 0 c).owed t0_0.castSucc = owed c 0 from rfl, show (dats m ρ 0 c).owed t0_0.succ = owed c 49 from (owed_end c).symm]
  iintro ⟨⟨⟨⟨%K, #HC⟩, Hb, Hcr, Hat, HtB, Ht⟩, Hwi, Hwo, Hbuf⟩, ⟨%W, %hW, HO⟩, H0, H1, H2, H3, H4, H5, H6, ⟨%d7, H7⟩⟩
  icases H0 with ⟨%d0, H0⟩
  ihave H0 := (Entails.of_eq (congrArg (owns (c : Thread nD τ) xM fullShare) (before_0 m ρ c d0))) $$ H0
  icases H1 with ⟨%d1, H1⟩
  ihave H1 := (Entails.of_eq (congrArg (owns (c : Thread nD τ) (winM 0) fullShare) (before_1 m ρ c d1))) $$ H1
  icases H2 with ⟨%d2, H2⟩
  ihave H2 := (Entails.of_eq (congrArg (owns (c : Thread nD τ) (woutM 0) fullShare) (before_2 m ρ c d2))) $$ H2
  icases H3 with ⟨%d3, H3⟩
  ihave H3 := (Entails.of_eq (congrArg (owns (c : Thread nD τ) (winM 1) fullShare) (before_3 m ρ c d3))) $$ H3
  icases H4 with ⟨%d4, H4⟩
  ihave H4 := (Entails.of_eq (congrArg (owns (c : Thread nD τ) (woutM 1) fullShare) (before_4 m ρ c d4))) $$ H4
  icases H5 with ⟨%d5, H5⟩
  ihave H5 := (Entails.of_eq (congrArg (owns (c : Thread nD τ) (winM 2) fullShare) (before_5 m ρ c d5))) $$ H5
  icases H6 with ⟨%d6, H6⟩
  ihave H6 := (Entails.of_eq (congrArg (owns (c : Thread nD τ) (woutM 2) fullShare) (before_6 m ρ c d6))) $$ H6
  iapply (sound (inp m) K c fun _ => _)
  unfold staged bodyPre stagedW ow
  simp only [bigSep_fin3]
  isplitr; · iexact HC
  isplitl [HO]; · iexists _; iexact HO
  isplitl [H0 H1 H2 H3 H4 H5 H6]
  · isplitl [H0]; · iexact H0
    isplitl [H1 H2]
    · isplitl [H1]; · iexact H1
      iexact H2
    isplitl [H3 H4]
    · isplitl [H3]; · iexact H3
      iexact H4
    isplitl [H5]; · iexact H5
    iexact H6
  isplitl [H7]; · unfold someW; iexists _; iexact H7
  isplitl [Hwi Hwo Hbuf Hb Hcr Hat HtB Ht]
  · isplitl [Hwi]; · iexact Hwi
    isplitl [Hwo]; · iexact Hwo
    isplitl [Hbuf]; · iexact Hbuf
    isplitl [Hb]; · iexact Hb
    isplitl [Hcr]; · iexact Hcr
    isplitl [Hat]; · iexact Hat
    isplitl [HtB]; · iexact HtB
    iexact Ht
  iintro ⟨⟨%W', HO⟩, ⟨H0, ⟨H1, H2⟩, ⟨H3, H4⟩, H5, H6⟩, H7, Hp⟩
  isplitl [Hp]; · iexact Hp
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxRecDepth 1000000 in
/-- The library's body obligation on a device. -/
theorem body_obligation (c : Dev nD) : BodyObligation (dats (F := F) m ρ 0 c) (defs₀ (F := F)) 𝒱₀ () Set.univ := fun t => by
  rw [fin_N0 t]
  rw [bigSep_W0, bigSep_W0]
  have h := ob m ρ c
  rw [← body_eq] at h
  exact h

/-! ### The launch's side conditions -/

theorem share_eq (c : Dev nD) (w : Fin cfg0.W) : (dats m ρ 0 c).share w = fullShare := by
  unfold Dat.share; split <;> rfl

omit [FloatOps F] in
/-- The working buffers, whole, as the body takes them; -/
theorem rest_in (c : Dev nD) : (Pipeline.scopedRest cfg0.spec c : sProp 𝕄) ⊢ iprop(someW c wiM ∗ someW c woM ∗ bufs c) := by
  rw [show cfg0.spec = spec0 from rfl, scopedRest0_eq]
  unfold bufs someW
  iintro ⟨⟨%f0, H0⟩, ⟨%f1, H1⟩, ⟨%f2, H2⟩, ⟨%f3, H3⟩, ⟨%f4, H4⟩⟩
  isplitl [H3]
  · iexists f3
    iapply (Entails.of_eq (owns_whole (c : Thread nD τ) cc0_scratch3 fullShare f3).symm); iexact H3
  isplitl [H4]
  · iexists f4
    iapply (Entails.of_eq (owns_whole (c : Thread nD τ) cc0_scratch4 fullShare f4).symm); iexact H4
  isplitl [H0]; · iapply (split_loose gM (View.set_whole _) c f0); iexact H0
  isplitl [H1]; · iapply (split_loose pM (View.set_whole _) c f1); iexact H1
  iapply (split_loose rM (View.set_whole _) c f2); iexact H2

omit [FloatOps F] in
/-- and as it gives them back. -/
theorem rest_out (f0 : (c : Dev nD) → Buf (Elt F) (gM.view.loc (c : Thread nD τ))) (f1 : (c : Dev nD) → Buf (Elt F) (pM.view.loc (c : Thread nD τ)))
    (f2 : (c : Dev nD) → Buf (Elt F) (rM.view.loc (c : Thread nD τ))) (c : Dev nD) :
    iprop(someW c wiM ∗ someW c woM ∗ bufs c) ⊢ (Pipeline.scopedRest cfg0.spec c : sProp 𝕄) := by
  rw [show cfg0.spec = spec0 from rfl, scopedRest0_eq]
  unfold bufs someW
  iintro ⟨⟨%f3, H3⟩, ⟨%f4, H4⟩, H0, H1, H2⟩
  isplitl [H0]; · iapply (join_loose gM (View.set_whole _) c (f0 c)); iexact H0
  isplitl [H1]; · iapply (join_loose pM (View.set_whole _) c (f1 c)); iexact H1
  isplitl [H2]; · iapply (join_loose rM (View.set_whole _) c (f2 c)); iexact H2
  isplitl [H3]
  · iexists f3
    iapply (Entails.of_eq (owns_whole (c : Thread nD τ) cc0_scratch3 fullShare f3)); iexact H3
  · iexists f4
    iapply (Entails.of_eq (owns_whole (c : Thread nD τ) cc0_scratch4 fullShare f4)); iexact H4

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ begun (inp m) c)
      ⊢ |={Set.univ}=> iprop(start m c ∗ emp) := by
  unfold begun records
  iintro ⟨-, #Hlev, Hcr, -, ⟨%K, #HI, #HR⟩, HL⟩
  ihave Hc := (creds (F := F) c) $$ Hcr
  icases Hc with ⟨H1, HN⟩
  imodintro
  unfold start ctx
  isplitl
  · isplitr
    · iexists K
      isplitr; · iexact HI
      isplitr; · iexact HR
      iexact Hlev
    isplitl [H1]; · iexact H1
    isplitl [HN]; · iexact HN
    iexact HL
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (rest_in (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁ bodyPost
  rw [sems0_eq]
  iintro ⟨H1, H2, H3, HU, HS⟩
  isplitl [HU]; · iexact HU
  isplitl [HS]; · iexact HS
  iapply (rest_out (F := F) (fun c => m (gM.view.loc (c : Thread nD τ))) (fun c => m (pM.view.loc (c : Thread nD τ))) (fun c => m (rM.view.loc (c : Thread nD τ))) c)
  isplitl [H1]; · iexact H1
  isplitl [H2]; · iexact H2
  iexact H3

theorem lvl_first : ∀ n : Fin 49, 0 < lvl (some (payIx n.val).2) := by decide +kernel

omit [FloatOps F] in
theorem mayWait_stage (c : Dev nD) (q : DmaSem sig) (hq : q.val < 8) (n : ℕ) :
    (levAts L lv : sProp 𝕄) ⊢ MayWait (c : Thread nD τ) (.dma q) () (owed c n) :=
  mayWait c _ n fun hn => by
    have h : lv ((c : Thread nD τ), SemLoc.dma q) () = 0 := by
      have hd : dec q = none := if_neg (by omega)
      show lvl (((dec q).map some).map _) = 0
      rw [hd]; rfl
    rw [h]; exact lvl_first ⟨n, hn⟩

theorem waits (c : Dev nD) : (levAts L lv : sProp 𝕄) ⊢ Pipeline.cellsWaits cfgs (dats m ρ) () 0 c :=
  Pipeline.cellsWaits_intro cfgs (dats m ρ) () 0 c fun w s t => by
    have h : (dats m ρ 0 c).owed t = owed c 0 ∨ (dats m ρ 0 c).owed t = owed c 49 := by
      rcases t with ⟨_ | _, ht⟩
      · exact Or.inl rfl
      · exact Or.inr (owed_end c).symm
    rcases h with h | h
    · rw [h]; exact mayWait_stage c _ (by fin_cases w <;> fin_cases s <;> decide) 0
    · rw [h]; exact mayWait_stage c _ (by fin_cases w <;> fin_cases s <;> decide) 49

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 1000000 in
/-- From any memory with zero counters the eight devices run to the end, whatever the interleaving; each array
    then holds what is computed for it, and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt (inp m)) (G' := begun (inp m)) (u₀ := u₀)
    (hu₀ := by
      unfold u₀
      iintro Hu
      ihave H := (ownU_pair _ _) $$ Hu
      icases H with ⟨HP, HX⟩
      imod (fund_all (inp m)) $$ HX with HG
      imodintro
      isplitl [HP] <;> iassumption)
    (hglob := glob (inp m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Talk
-- ==== Proof.Same.lean ====
module

public import proofs.«01_k».proof.Proof.Launch
public import proofs.«01_k».proof.Proof.Gen.Kernel.Skeleton

@[expose] public section

/-!
The program as printed and the program to be read over the reals have the same text.
-/

namespace Cert.KernelIdeal.Talk

open Idealize.ShloMosaic

variable {F : FTy → Type} [FloatOps F]

set_option maxRecDepth 1000000 in
/-- The two kernel bodies are the same. -/
theorem body_same : Cert.Kernel.cc0_body (F := F) = Cert.KernelIdeal.cc0_body (F := F) := rfl

set_option maxRecDepth 1000000 in
/-- The two body tables are the same. -/
theorem bodies_same : Cert.Kernel.defs₀ (F := F) = Cert.KernelIdeal.defs₀ (F := F) := by
  unfold Cert.Kernel.defs₀ Cert.KernelIdeal.defs₀
  refine congrArg Defs.onTc ?_
  funext ℓ x
  match ℓ, x with
  | 0, (t, s) =>
    dsimp only
    rw [body_same]
  | ⟨_ + 1, h⟩, _ => exact absurd h (Nat.not_lt.2 (Nat.le_add_left _ _))

set_option maxRecDepth 1000000 in
/-- The two tables with their pipelines are the same. -/
theorem defs_same : Cert.Kernel.defs (F := F) = Cert.KernelIdeal.defs (F := F) :=
  congrArg (Pipeline.defs Cert.KernelIdeal.pcfgs) bodies_same

end Cert.KernelIdeal.Talk
-- ==== Proof.Final.lean ====
module

public import proofs.«01_k».proof.Proof.Same
public import proofs.«01_k».proof.Defs
public import proofs.«01_k».proof.Proof.Gen.ReferenceIdeal.Run
public import Idealize.ShloMosaic.Lib.Quiescent
public import Idealize.ShloMosaic.Lib.Pipeline.ValueKit

@[expose] public section

noncomputable section

/-!
The arrays after the run: the arguments are as they were, the result is what the kernel computes.
-/

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- An argument array ends as it began. -/
theorem final_in (c : Dev nD) (w : Fin cfg0.W) (h : (cfg0.win w).isOut = false) :
    finalA m ρ c w = m ((cfg0.win w).arr.view.loc (c : Thread nD τ)) :=
  (dats (F := F) m ρ 0 c).arrAt_in w h _

/-- The result array ends at the stored blocks' sums. -/
theorem final_out (c : Dev nD) : finalA m ρ c 7 = (inp m).res c := by
  refine (dats m ρ 0 c).arrAt_eq_of_after_last 7 t0_0 (by decide +kernel) ((inp m).res c) fun j => ?_
  rfl

/-- What a run leaves in memory. -/
structure Left (r : (ℓ : Loc nD τ sig) → Buf (Elt F) ℓ) (c : Dev nD) : Prop where
  out : r ((c : Thread nD τ).loc main_v1) = (inp m).res c
  a0 : r ((c : Thread nD τ).loc main_arg0) = m ((c : Thread nD τ).loc main_arg0)
  a1 : r ((c : Thread nD τ).loc main_arg1) = m ((c : Thread nD τ).loc main_arg1)
  a2 : r ((c : Thread nD τ).loc main_arg2) = m ((c : Thread nD τ).loc main_arg2)
  a3 : r ((c : Thread nD τ).loc main_arg3) = m ((c : Thread nD τ).loc main_arg3)
  a4 : r ((c : Thread nD τ).loc main_arg4) = m ((c : Thread nD τ).loc main_arg4)
  a5 : r ((c : Thread nD τ).loc main_arg5) = m ((c : Thread nD τ).loc main_arg5)
  a6 : r ((c : Thread nD τ).loc main_arg6) = m ((c : Thread nD τ).loc main_arg6)

theorem left_of {r : PUnit × MemSt nD τ sig (Elt F)} (h : QC m ρ r) (c : Dev nD) : Left m r.2.mem c where
  out := (h c 7).trans (final_out m ρ c)
  a0 := (h c 0).trans (final_in m ρ c 0 rfl)
  a1 := (h c 1).trans (final_in m ρ c 1 rfl)
  a2 := (h c 3).trans (final_in m ρ c 3 rfl)
  a3 := (h c 5).trans (final_in m ρ c 5 rfl)
  a4 := (h c 2).trans (final_in m ρ c 2 rfl)
  a5 := (h c 4).trans (final_in m ρ c 4 rfl)
  a6 := (h c 6).trans (final_in m ρ c 6 rfl)

/-- Every run ends, with the arguments as they were and every counter at zero. -/
theorem run_frame : θ_run Cert.KernelIdeal.defs (onTc (τ := Cert.KernelIdeal.τ) (Cert.KernelIdeal.main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run Cert.KernelIdeal.defs _ _).mono
    (fun _ h => ⟨fun c => have l := left_of m ρ h.1 c; ⟨l.a0, l.a1, l.a2, l.a3, l.a4, l.a5, l.a6⟩, h.2⟩) (run_main m ρ)

/-- The kernel's frame, for the idealized program. -/
theorem frame_ideal : Cert.quiescent_KernelIdeal := fun m ρ _ => run_frame (F := Ideal) m ρ

set_option maxRecDepth 1000000 in
/-- The kernel's frame, for the program as printed: the same text. -/
theorem frame_kernel : Cert.quiescent_Kernel := fun m ρ _ => by
  have h := run_frame (F := Bits) m ρ
  rw [← defs_same] at h
  exact h

/-- The reference's frame; it declares no counter. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.KernelIdeal.Talk
-- ==== Proof.Pay.lean ====
module

public import proofs.«01_k».proof.Proof.Data
public import Idealize.ShloMosaic.Lib.Pointwise
public import Idealize.ShloMosaic.Lib.IdealHost
public import Idealize.ShloMosaic.Lib.MatmulPlain
public import Idealize.ShloMosaic.Lib.Pipeline.Value

@[expose] public section

noncomputable section

/-!
What the kernel's payloads are over the reals, entry by entry.
-/

namespace Cert.KernelIdeal.Talk

open Idealize.ShloMosaic
open Cert.KernelIdeal.Gen

/-- A block of the input, with a unit axis in front. -/
theorem pay1_apply (v : Vec Ideal S64x512 .bf16) (r : Fin 64) (k : Fin 512) :
    k0_pay1 v (ix3 0 r k) = v (ix2 r k) := by
  unfold k0_pay1
  pointwise

/-- A device's share of a first matrix, as it is. -/
theorem pay2_eq (v : Vec Ideal S512x1024 .bf16) : k0_pay2 v = v := by
  unfold k0_pay2
  simp only [shapeCast_self]

/-- A device's share of a second matrix, as it is. -/
theorem pay3_eq (v : Vec Ideal S1024x512 .bf16) : k0_pay3 v = v := by
  unfold k0_pay3
  simp only [shapeCast_self]

/-- One block of activations through one device's share of a layer. -/
theorem pay4_apply (X : Vec Ideal S1x64x512 .bf16) (wi : Vec Ideal S512x1024 .bf16) (wo : Vec Ideal S1024x512 .bf16)
    (r : Fin 64) (c : Fin 512) :
    k0_pay4 X wi wo (ix3 0 r c)
      = ∑ j : Fin 1024, max (∑ k : Fin 512, (X (ix3 0 r k) : EReal) * wi (ix2 k j)) 0 * (wo (ix2 j c) : EReal) := by
  unfold k0_pay4
  pointwise

/-- The sum of eight blocks. -/
theorem pay16_apply (v : Vec Ideal S1x512x512 .bf16) (r : Fin 64) (c : Fin 512) :
    k0_pay16 v (ix3 0 r c) = ∑ s : Fin 8, (v (ix3 0 ⟨s.val * 64 + r.val, by omega⟩ c) : EReal) := by
  unfold k0_pay16
  pointwise

/-- The sum of eight blocks, as the result. -/
theorem pay45_apply (v : Vec Ideal S1x512x512 .bf16) (r : Fin 64) (c : Fin 512) :
    k0_pay45 v (ix2 r c) = ∑ s : Fin 8, (v (ix3 0 ⟨s.val * 64 + r.val, by omega⟩ c) : EReal) := by
  unfold k0_pay45
  pointwise

/-- Row `r` of block `s` of a slab. -/
theorem slab_apply (Y : Dev nD → Vec Ideal S1x64x512 .bf16) (s : Fin 8) (r : Fin 64) (c : Fin 512) :
    slab Y (ix3 0 ⟨s.val * 64 + r.val, by omega⟩ c) = Y s (ix3 0 r c) := by
  have h1 : ofRow (n := 1) (ix3 0 ⟨s.val * 64 + r.val, by omega⟩ c) = s :=
    Fin.ext (by show (s.val * 64 + r.val) / 64 = s.val; omega)
  have h2 : inRow (n := 1) (ix3 0 ⟨s.val * 64 + r.val, by omega⟩ c) = ix3 0 r c := by
    funext a
    apply Fin.ext
    fin_cases a
    · rfl
    · show (s.val * 64 + r.val) % 64 = r.val
      omega
    · rfl
  unfold slab
  rw [h1, h2]

/-! ### The layers, over whole arrays -/

/-- A layer of the network over the reals: two products with the positive part between them. -/
def layer (X : S512x512.Idx → EReal) (wi : (⟨2, ![512, 8192]⟩ : Shape).Idx → EReal)
    (wo : (⟨2, ![8192, 512]⟩ : Shape).Idx → EReal) : S512x512.Idx → EReal :=
  fun i => ∑ j : Fin 8192, max (∑ k : Fin 512, X (ix2 (i 0) k) * wi (ix2 k j)) 0 * wo (ix2 j (i 1))

/-- A sum over 8192 places, as eight sums over 1024. -/
theorem sum_cut (f : Fin 8192 → EReal) :
    ∑ j, f j = ∑ s : Fin 8, ∑ j : Fin 1024, f ⟨s.val * 1024 + j.val, by omega⟩ := by
  rw [← Equiv.sum_comp (finProdFinEquiv (m := 8) (n := 1024)) f, Fintype.sum_prod_type]
  refine Finset.sum_congr rfl fun s _ => Finset.sum_congr rfl fun j _ => congrArg f (Fin.ext ?_)
  show j.val + 1024 * s.val = s.val * 1024 + j.val
  omega

/-- Row `r` of block `p`. -/
abbrev row (p : Dev nD) (r : Fin 64) : Fin 512 := ⟨p.val * 64 + r.val, by have : p.val < 8 := p.isLt; omega⟩

/-- The eight partial products of a block of a layer add up to the layer's block. -/
theorem parts_sum (I : Inp Ideal) (l : Fin 3) (X : S512x512.Idx → EReal) (wi : (⟨2, ![512, 8192]⟩ : Shape).Idx → EReal)
    (wo : (⟨2, ![8192, 512]⟩ : Shape).Idx → EReal)
    (hwi : ∀ (s : Dev nD) (k : Fin 512) (j : Fin 1024), I.wi l s (ix2 k j) = wi (ix2 k ⟨s.val * 1024 + j.val, by have : s.val < 8 := s.isLt; omega⟩))
    (hwo : ∀ (s : Dev nD) (j : Fin 1024) (c : Fin 512), I.wo l s (ix2 j c) = wo (ix2 ⟨s.val * 1024 + j.val, by have : s.val < 8 := s.isLt; omega⟩ c))
    (Y : Vec Ideal S1x64x512 .bf16) (p : Dev nD) (hY : ∀ r k, Y (ix3 0 r k) = X (ix2 (row p r) k)) (r : Fin 64) (c : Fin 512) :
    (∑ s : Fin 8, (I.part l Y s (ix3 0 r c) : EReal)) = layer X wi wo (ix2 (row p r) c) := by
  show _ = ∑ j : Fin 8192, max (∑ k : Fin 512, X (ix2 (row p r) k) * wi (ix2 k j)) 0 * wo (ix2 j c)
  rw [sum_cut]
  refine Finset.sum_congr rfl fun s _ => ?_
  unfold Inp.part
  rw [pay4_apply, pay2_eq, pay3_eq]
  simp only [hY, hwi, hwo]

/-- What it means that the devices hold their shares of the whole arrays. -/
structure Shares (I : Inp Ideal) (X : S512x512.Idx → EReal) (wi : Fin 3 → (⟨2, ![512, 8192]⟩ : Shape).Idx → EReal)
    (wo : Fin 3 → (⟨2, ![8192, 512]⟩ : Shape).Idx → EReal) : Prop where
  x : ∀ (p : Dev nD) (r : Fin 64) (k : Fin 512), I.x p (ix2 r k) = X (ix2 (row p r) k)
  wi : ∀ (l : Fin 3) (s : Dev nD) (k : Fin 512) (j : Fin 1024),
    I.wi l s (ix2 k j) = wi l (ix2 k ⟨s.val * 1024 + j.val, by have : s.val < 8 := s.isLt; omega⟩)
  wo : ∀ (l : Fin 3) (s : Dev nD) (j : Fin 1024) (c : Fin 512),
    I.wo l s (ix2 j c) = wo l (ix2 ⟨s.val * 1024 + j.val, by have : s.val < 8 := s.isLt; omega⟩ c)

/-- The block of the next activations, from the eight partial products. -/
theorem next_apply {I : Inp Ideal} {X wi wo} (h : Shares I X wi wo) (l : Fin 3) (A : S512x512.Idx → EReal)
    (Y : Vec Ideal S1x64x512 .bf16) (p : Dev nD) (hY : ∀ r k, Y (ix3 0 r k) = A (ix2 (row p r) k)) (r : Fin 64) (c : Fin 512) :
    k0_pay16 (slab fun s => I.part l Y s) (ix3 0 r c) = layer A (wi l) (wo l) (ix2 (row p r) c) := by
  rw [pay16_apply, ← parts_sum I l A (wi l) (wo l) (h.wi l) (h.wo l) Y p hY r c]
  exact Finset.sum_congr rfl fun s _ => slab_apply _ s r c

/-- Each device's result is its block of the three layers' result. -/
theorem res_apply {I : Inp Ideal} {X wi wo} (h : Shares I X wi wo) (p : Dev nD) (r : Fin 64) (c : Fin 512) :
    I.res p (ix2 r c) = layer (layer (layer X (wi 0) (wo 0)) (wi 1) (wo 1)) (wi 2) (wo 2) (ix2 (row p r) c) := by
  unfold Inp.res
  rw [pay45_apply, ← parts_sum I 2 _ (wi 2) (wo 2) (h.wi 2) (h.wo 2) (I.act 2 p) p ?_ r c]
  · exact Finset.sum_congr rfl fun s _ => slab_apply _ s r c
  · refine next_apply h 1 _ _ p (next_apply h 0 X _ p fun r k => ?_)
    rw [pay1_apply, h.x]

end Cert.KernelIdeal.Talk
-- ==== Proof.Value.lean ====
module

public import proofs.«01_k».proof.Proof.Final
public import proofs.«01_k».proof.Proof.Pay
public import Idealize.ShloMosaic.Lib.Layout

@[expose] public section

noncomputable section

/-!
The kernel's result over the reals is the reference's.
-/

namespace Cert.KernelIdeal.Talk

open Idealize.ShloMosaic
open Idealize.ShloMosaic.TcCoe
open Idealize.SL.Sem
open Cert.KernelIdeal.Gen

/-! ### The reference -/

/-- A layer as the reference runs it. -/
def refLayer (X : FVec Ideal Cert.ReferenceIdeal.S512x512 .bf16) (wi : FVec Ideal Cert.ReferenceIdeal.S512x8192 .bf16)
    (wo : FVec Ideal Cert.ReferenceIdeal.S8192x512 .bf16) : FVec Ideal Cert.ReferenceIdeal.S512x512 .bf16 :=
  truncf .bf16 (Host.dotGeneral Cert.ReferenceIdeal.dot_S512x8192_S8192x512_S512x512_1_0_0_1_n_n none
    (maximumf (truncf .bf16 (Host.dotGeneral Cert.ReferenceIdeal.dot_S512x512_S512x8192_S512x8192_1_0_0_1_n_n none X wi) Cert.ReferenceIdeal.Facts₀.bitsLt_bf16_f32)
      (broadcastInDim Cert.ReferenceIdeal.S512x8192 ![] Cert.ReferenceIdeal.Facts₀.bcast_S_S512x8192 (constant Cert.ReferenceIdeal.S_ .bf16 0x0000#16))) wo)
    Cert.ReferenceIdeal.Facts₀.bitsLt_bf16_f32

/-- It is the layer over the reals. -/
theorem refLayer_eq (X : FVec Ideal Cert.ReferenceIdeal.S512x512 .bf16) (wi : FVec Ideal Cert.ReferenceIdeal.S512x8192 .bf16)
    (wo : FVec Ideal Cert.ReferenceIdeal.S8192x512 .bf16) : refLayer X wi wo = layer X wi wo := by
  funext i
  unfold refLayer layer
  pointwise

/-- The reference's result, as its last cast leaves it. -/
def refOut (m' : (ℓ : Loc Cert.ReferenceIdeal.nD Cert.ReferenceIdeal.τ Cert.ReferenceIdeal.sig) → Buf (Elt Ideal) ℓ) (d : Dev Cert.ReferenceIdeal.nD) :
    Buf (Elt Ideal) ((d.tc : Thread Cert.ReferenceIdeal.nD Cert.ReferenceIdeal.τ).loc Cert.ReferenceIdeal.main_v18) :=
  extf .f32 (refLayer (refLayer (refLayer
    (m' ((d.tc : Thread Cert.ReferenceIdeal.nD Cert.ReferenceIdeal.τ).loc Cert.ReferenceIdeal.main_arg0))
    (m' ((d.tc : Thread Cert.ReferenceIdeal.nD Cert.ReferenceIdeal.τ).loc Cert.ReferenceIdeal.main_arg1))
    (m' ((d.tc : Thread Cert.ReferenceIdeal.nD Cert.ReferenceIdeal.τ).loc Cert.ReferenceIdeal.main_arg4)))
    (m' ((d.tc : Thread Cert.ReferenceIdeal.nD Cert.ReferenceIdeal.τ).loc Cert.ReferenceIdeal.main_arg2))
    (m' ((d.tc : Thread Cert.ReferenceIdeal.nD Cert.ReferenceIdeal.τ).loc Cert.ReferenceIdeal.main_arg5)))
    (m' ((d.tc : Thread Cert.ReferenceIdeal.nD Cert.ReferenceIdeal.τ).loc Cert.ReferenceIdeal.main_arg3))
    (m' ((d.tc : Thread Cert.ReferenceIdeal.nD Cert.ReferenceIdeal.τ).loc Cert.ReferenceIdeal.main_arg6))) Cert.ReferenceIdeal.Facts₀.bitsLt_bf16_f32

/-! ### The kernel's inputs: each window's block is its whole argument -/

section Inputs
variable (m : (ℓ : Loc nD τ sig) → Buf (Elt Ideal) ℓ)

/-- The window of the input is the whole argument. -/
theorem iblk_0 (c : Dev nD) : iblk m c 0 t0_0 = m ((c : Thread nD τ).loc main_arg0) := by
  have h : ∀ t : Fin cfg0.N, win0_0.index t = ![0, 0] := (by decide +kernel : ∀ t : Fin grid0.N, _)
  blk_ext! [iblk, V, h t0_0]
/-- The window of the first layer's first matrix is the whole argument. -/
theorem iblk_1 (c : Dev nD) : iblk m c 1 t0_0 = m ((c : Thread nD τ).loc main_arg1) := by
  have h : ∀ t : Fin cfg0.N, win0_1.index t = ![0, 0] := (by decide +kernel : ∀ t : Fin grid0.N, _)
  blk_ext! [iblk, V, h t0_0]
/-- The window of the first layer's second matrix is the whole argument. -/
theorem iblk_2 (c : Dev nD) : iblk m c 2 t0_0 = m ((c : Thread nD τ).loc main_arg4) := by
  have h : ∀ t : Fin cfg0.N, win0_2.index t = ![0, 0] := (by decide +kernel : ∀ t : Fin grid0.N, _)
  blk_ext! [iblk, V, h t0_0]
/-- The window of the second layer's first matrix is the whole argument. -/
theorem iblk_3 (c : Dev nD) : iblk m c 3 t0_0 = m ((c : Thread nD τ).loc main_arg2) := by
  have h : ∀ t : Fin cfg0.N, win0_3.index t = ![0, 0] := (by decide +kernel : ∀ t : Fin grid0.N, _)
  blk_ext! [iblk, V, h t0_0]
/-- The window of the second layer's second matrix is the whole argument. -/
theorem iblk_4 (c : Dev nD) : iblk m c 4 t0_0 = m ((c : Thread nD τ).loc main_arg5) := by
  have h : ∀ t : Fin cfg0.N, win0_4.index t = ![0, 0] := (by decide +kernel : ∀ t : Fin grid0.N, _)
  blk_ext! [iblk, V, h t0_0]
/-- The window of the third layer's first matrix is the whole argument. -/
theorem iblk_5 (c : Dev nD) : iblk m c 5 t0_0 = m ((c : Thread nD τ).loc main_arg3) := by
  have h : ∀ t : Fin cfg0.N, win0_5.index t = ![0, 0] := (by decide +kernel : ∀ t : Fin grid0.N, _)
  blk_ext! [iblk, V, h t0_0]
/-- The window of the third layer's second matrix is the whole argument. -/
theorem iblk_6 (c : Dev nD) : iblk m c 6 t0_0 = m ((c : Thread nD τ).loc main_arg6) := by
  have h : ∀ t : Fin cfg0.N, win0_6.index t = ![0, 0] := (by decide +kernel : ∀ t : Fin grid0.N, _)
  blk_ext! [iblk, V, h t0_0]

end Inputs

/-- The whole matrices, layer by layer. -/
abbrev three {α : Type} (a b c : α) : Fin 3 → α := fun l => match l with | 0 => a | 1 => b | 2 => c

/-- A place of a block of rows of a square array, in the array. -/
theorem row_idx (p : Dev nD) (r : Fin 64) (k : Fin 512) :
    Layout.Tiles.idx (S := ⟨2, ![64, 512]⟩) (T := ⟨2, ![512, 512]⟩) (a := 0) (k := 8) (by decide) p (ix2 r k) = ix2 (row p r) k := by
  funext a
  apply Fin.ext
  fin_cases a <;> rfl

/-- A place of a block of columns of a first matrix, in the matrix. -/
theorem in_idx (s : Dev nD) (k : Fin 512) (j : Fin 1024) :
    Layout.Tiles.idx (S := ⟨2, ![512, 1024]⟩) (T := ⟨2, ![512, 8192]⟩) (a := 1) (k := 8) (by decide) s (ix2 k j)
      = ix2 k ⟨s.val * 1024 + j.val, by have : s.val < 8 := s.isLt; omega⟩ := by
  funext a
  apply Fin.ext
  fin_cases a <;> rfl

/-- A place of a block of rows of a second matrix, in the matrix. -/
theorem out_idx (s : Dev nD) (j : Fin 1024) (c : Fin 512) :
    Layout.Tiles.idx (S := ⟨2, ![1024, 512]⟩) (T := ⟨2, ![8192, 512]⟩) (a := 0) (k := 8) (by decide) s (ix2 j c)
      = ix2 ⟨s.val * 1024 + j.val, by have : s.val < 8 := s.isLt; omega⟩ c := by
  funext a
  apply Fin.ext
  fin_cases a <;> rfl

/-- If every device's arguments are its blocks of whole arrays, the devices hold their shares of these. -/
theorem shares (m : (ℓ : Loc nD τ sig) → Buf (Elt Ideal) ℓ)
    (x : (⟨2, ![512, 512]⟩ : Shape).Idx → EReal) (w1 w2 w3 : (⟨2, ![512, 8192]⟩ : Shape).Idx → EReal)
    (w4 w5 w6 : (⟨2, ![8192, 512]⟩ : Shape).Idx → EReal)
    (h : ∀ c : Dev nD, m ((c : Thread nD τ).loc main_arg0) = Layout.block ⟨2, ![64, 512]⟩ ⟨2, ![512, 512]⟩ 0 8 c x
      ∧ m ((c : Thread nD τ).loc main_arg1) = Layout.block ⟨2, ![512, 1024]⟩ ⟨2, ![512, 8192]⟩ 1 8 c w1
      ∧ m ((c : Thread nD τ).loc main_arg2) = Layout.block ⟨2, ![512, 1024]⟩ ⟨2, ![512, 8192]⟩ 1 8 c w2
      ∧ m ((c : Thread nD τ).loc main_arg3) = Layout.block ⟨2, ![512, 1024]⟩ ⟨2, ![512, 8192]⟩ 1 8 c w3
      ∧ m ((c : Thread nD τ).loc main_arg4) = Layout.block ⟨2, ![1024, 512]⟩ ⟨2, ![8192, 512]⟩ 0 8 c w4
      ∧ m ((c : Thread nD τ).loc main_arg5) = Layout.block ⟨2, ![1024, 512]⟩ ⟨2, ![8192, 512]⟩ 0 8 c w5
      ∧ m ((c : Thread nD τ).loc main_arg6) = Layout.block ⟨2, ![1024, 512]⟩ ⟨2, ![8192, 512]⟩ 0 8 c w6) :
    Shares (inp m) x (three w1 w2 w3) (three w4 w5 w6) where
  x p r k := by
    show iblk m p 0 t0_0 (ix2 r k) = _
    rw [iblk_0, (h p).1, Layout.block_apply]
    exact congrArg x (row_idx p r k)
  wi l s k j := by
    match l with
    | 0 =>
      show iblk m s 1 t0_0 (ix2 k j) = w1 _
      rw [iblk_1, (h s).2.1, Layout.block_apply]
      exact congrArg w1 (in_idx s k j)
    | 1 =>
      show iblk m s 3 t0_0 (ix2 k j) = w2 _
      rw [iblk_3, (h s).2.2.1, Layout.block_apply]
      exact congrArg w2 (in_idx s k j)
    | 2 =>
      show iblk m s 5 t0_0 (ix2 k j) = w3 _
      rw [iblk_5, (h s).2.2.2.1, Layout.block_apply]
      exact congrArg w3 (in_idx s k j)
  wo l s j c := by
    match l with
    | 0 =>
      show iblk m s 2 t0_0 (ix2 j c) = w4 _
      rw [iblk_2, (h s).2.2.2.2.1, Layout.block_apply]
      exact congrArg w4 (out_idx s j c)
    | 1 =>
      show iblk m s 4 t0_0 (ix2 j c) = w5 _
      rw [iblk_4, (h s).2.2.2.2.2.1, Layout.block_apply]
      exact congrArg w5 (out_idx s j c)
    | 2 =>
      show iblk m s 6 t0_0 (ix2 j c) = w6 _
      rw [iblk_6, (h s).2.2.2.2.2.2, Layout.block_apply]
      exact congrArg w6 (out_idx s j c)

set_option maxRecDepth 100000 in
/-- Over the reals each device's result is its block of the reference's result. -/
theorem algebraic : Cert.algebraic_KernelIdeal_ReferenceIdeal := by
  intro m g m' g' _ hm
  refine ⟨refOut m' 0, ?_, ?_⟩
  · refine (θ_run Cert.KernelIdeal.defs _ _).mono (fun _ h c => ?_) (run_main (F := Ideal) m g)
    have l := left_of m g h.1 c
    refine ⟨l.out.trans ?_, l.a0, l.a1, l.a2, l.a3, l.a4, l.a5, l.a6⟩
    funext i
    rw [Layout.block_apply]
    have e : i = ix2 (i 0) (i 1) := by funext a; fin_cases a <;> rfl
    rw [e]
    refine (res_apply (shares m _ _ _ _ _ _ _ hm) c (i 0) (i 1)).trans ?_
    unfold refOut
    rw [refLayer_eq, refLayer_eq, refLayer_eq]
    exact congrArg (layer _ _ _) (row_idx c (i 0) (i 1)).symm
  · unfold refOut refLayer
    exact (θ_run Cert.ReferenceIdeal.defs _ _).mono (fun _ h => h 0) (Cert.ReferenceIdeal.Value.run (F := Ideal) m' g')

end Cert.KernelIdeal.Talk
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨Cert.KernelIdeal.Talk.frame_kernel, Cert.KernelIdeal.Talk.frame_ideal, Cert.KernelIdeal.Talk.frame_reference, trivial, Cert.KernelIdeal.Talk.algebraic⟩⟩

end Cert.Proof

end
